-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tame [hPre_tame : Cert.Pre_tame.Facts] (m : (ℓ : Loc Cert.KernelIdeal.nD Cert.KernelIdeal.τ Cert.KernelIdeal.sig) → Buf (Elt Ideal) ℓ) : Prop :=
  ∀ c : Dev Cert.KernelIdeal.nD,
    (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_tame.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tame [hPre_tame : Cert.Pre_tame.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_tame.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_tame [hKernelIdeal : Cert.KernelIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tame m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_tame [hReferenceIdeal : Cert.ReferenceIdeal.Facts] [hPre_tame : Cert.Pre_tame.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tame m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_tame [hKernelIdeal : Cert.KernelIdeal.Facts] [hReferenceIdeal : Cert.ReferenceIdeal.Facts] [hPre_tame : Cert.Pre_tame.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tame m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v1_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_tame : Cert.Pre_tame.Facts),
    quiescent_Kernel (hKernel := hKernel)
    ∧ quiescent_KernelIdeal (hKernelIdeal := hKernelIdeal)
    ∧ quiescent_KernelIdeal_pre_tame (hKernelIdeal := hKernelIdeal) (hPre_tame := hPre_tame)
    ∧ quiescent_ReferenceIdeal (hReferenceIdeal := hReferenceIdeal)
    ∧ quiescent_ReferenceIdeal_pre_tame (hReferenceIdeal := hReferenceIdeal) (hPre_tame := hPre_tame)
    ∧ preserves_Kernel_KernelIdeal
    ∧ algebraic_KernelIdeal_ReferenceIdeal_pre_tame (hKernelIdeal := hKernelIdeal) (hReferenceIdeal := hReferenceIdeal) (hPre_tame := hPre_tame)
-- ==== Pre_tame.lean ====
abbrev S3x512x4096 : Shape := ⟨3, ![3, 512, 4096]⟩
abbrev S4096x4608 : Shape := ⟨2, ![4096, 4608]⟩
abbrev S128x4608 : Shape := ⟨2, ![128, 4608]⟩
abbrev S3x512x128x32 : Shape := ⟨4, ![3, 512, 128, 32]⟩
abbrev S_ : Shape := ⟨0, ![]⟩
abbrev S3x512x128 : Shape := ⟨3, ![3, 512, 128]⟩

class Facts : Prop where
  shapeCasts_S3x512x4096_S3x512x128x32 : S3x512x4096.ShapeCasts S3x512x128x32
  reducesTo_S3x512x128x32_S3x512x128_d3 : S3x512x128x32.ReducesTo [3] S3x512x128
  h_S_ : 0 < S_.numel
  bcast_S_S128x4608 : S_.BroadcastsInDim S128x4608 (![] : Fin 0 → Fin S128x4608.rank)
  bcast_S_S3x512x128 : S_.BroadcastsInDim S3x512x128 (![] : Fin 0 → Fin S3x512x128.rank)

variable [Facts]

def fn {F : FTy → Type} [FloatOps F] (main_arg0 : FVec F S3x512x4096 .bf16) (main_arg1 : FVec F S4096x4608 .fp8e4m3) (main_arg2 : IVec S128x4608 8) : IVec S3x512x128 1 × IVec S128x4608 1 :=
  let main_v0 : FVec F S3x512x128x32 .bf16 := shapeCast S3x512x128x32 main_arg0 shapeCasts_S3x512x4096_S3x512x128x32
  let main_v1 : FVec F S3x512x128x32 .bf16 := Host.absf main_v0
  let main_cst : FVec F S_ .bf16 := constant S_ .bf16 0xFF80#16
  let main_v2 : FVec F S3x512x128 .bf16 := (fun x v => Host.reduce FloatOps.maximumf x v reducesTo_S3x512x128x32_S3x512x128_d3 h_S_) main_v1 main_cst
  let main_c : IVec S_ 8 := constantI S_ 8 1#8
  let main_v3 : IVec S128x4608 8 := broadcastInDim S128x4608 ![] bcast_S_S128x4608 main_c
  let main_v4 : IVec S128x4608 1 := cmpi .uge main_arg2 main_v3
  let main_c_0 : IVec S_ 8 := constantI S_ 8 254#8
  let main_v5 : IVec S128x4608 8 := broadcastInDim S128x4608 ![] bcast_S_S128x4608 main_c_0
  let main_v6 : IVec S128x4608 1 := cmpi .ule main_arg2 main_v5
  let main_v7 : IVec S128x4608 1 := andi main_v4 main_v6
  let main_cst_1 : FVec F S_ .bf16 := constant S_ .bf16 0x0000#16
  let main_v8 : FVec F S3x512x128 .bf16 := broadcastInDim S3x512x128 ![] bcast_S_S3x512x128 main_cst_1
  let main_v9 : IVec S3x512x128 1 := cmpf .oeq main_v2 main_v8
  let main_cst_2 : FVec F S_ .bf16 := constant S_ .bf16 0x04E0#16
  let main_v10 : FVec F S3x512x128 .bf16 := broadcastInDim S3x512x128 ![] bcast_S_S3x512x128 main_cst_2
  let main_v11 : IVec S3x512x128 1 := cmpf .oge main_v2 main_v10
  let main_cst_3 : FVec F S_ .bf16 := constant S_ .bf16 0x7F7F#16
  let main_v12 : FVec F S3x512x128 .bf16 := broadcastInDim S3x512x128 ![] bcast_S_S3x512x128 main_cst_3
  let main_v13 : IVec S3x512x128 1 := cmpf .ole main_v2 main_v12
  let main_v14 : IVec S3x512x128 1 := andi main_v11 main_v13
  let main_v15 : IVec S3x512x128 1 := ori main_v9 main_v14
  (main_v15, main_v7)
-- ==== Kernel.lean ====
abbrev S3x512x4096 : Shape := ⟨3, ![3, 512, 4096]⟩
abbrev S4096x4608 : Shape := ⟨2, ![4096, 4608]⟩
abbrev S128x4608 : Shape := ⟨2, ![128, 4608]⟩
abbrev S128x128 : Shape := ⟨2, ![128, 128]⟩
abbrev S128x128x1 : Shape := ⟨3, ![128, 128, 1]⟩
abbrev S128x128x32 : Shape := ⟨3, ![128, 128, 32]⟩
abbrev S128x4096 : Shape := ⟨2, ![128, 4096]⟩
abbrev S1536x4096 : Shape := ⟨2, ![1536, 4096]⟩
abbrev S1536x4608 : Shape := ⟨2, ![1536, 4608]⟩
abbrev S1536x128 : Shape := ⟨2, ![1536, 128]⟩
abbrev S4096x512 : Shape := ⟨2, ![4096, 512]⟩
abbrev S128x512 : Shape := ⟨2, ![128, 512]⟩
abbrev S1536x512 : Shape := ⟨2, ![1536, 512]⟩
abbrev S256x4096 : Shape := ⟨2, ![256, 4096]⟩
abbrev S256x128 : Shape := ⟨2, ![256, 128]⟩
abbrev S128x32x512 : Shape := ⟨3, ![128, 32, 512]⟩
abbrev S128x1x512 : Shape := ⟨3, ![128, 1, 512]⟩
abbrev S512x4096 : Shape := ⟨2, ![512, 4096]⟩
abbrev S512x512 : Shape := ⟨2, ![512, 512]⟩

abbrev nBuf : Space → Nat
  | .hbm => 11
  | .vmem => 13
  | .smem => 0
  | _ => 0

abbrev bufTy : (tb : Table) → Fin (tcTables nBuf tb) → BufTy
  | .hbm, ⟨0, _⟩ => ⟨S3x512x4096, .bf16⟩
  | .hbm, ⟨1, _⟩ => ⟨S4096x4608, .fp8e4m3⟩
  | .hbm, ⟨2, _⟩ => ⟨S128x4608, .i8⟩
  | .hbm, ⟨3, _⟩ => ⟨S128x128, .bf16⟩
  | .hbm, ⟨4, _⟩ => ⟨S128x128x1, .bf16⟩
  | .hbm, ⟨5, _⟩ => ⟨S128x128x32, .bf16⟩
  | .hbm, ⟨6, _⟩ => ⟨S128x4096, .bf16⟩
  | .hbm, ⟨7, _⟩ => ⟨S1536x4096, .bf16⟩
  | .hbm, ⟨8, _⟩ => ⟨S1536x4608, .bf16⟩
  | .hbm, ⟨9, _⟩ => ⟨S1536x4096, .fp8e4m3⟩
  | .hbm, ⟨10, _⟩ => ⟨S1536x128, .i8⟩
  | .local _ .vmem, ⟨0, _⟩ => ⟨S1536x4096, .bf16⟩
  | .local _ .vmem, ⟨1, _⟩ => ⟨S128x4096, .bf16⟩
  | .local _ .vmem, ⟨2, _⟩ => ⟨S128x128, .bf16⟩
  | .local _ .vmem, ⟨3, _⟩ => ⟨S4096x512, .fp8e4m3⟩
  | .local _ .vmem, ⟨4, _⟩ => ⟨S4096x512, .fp8e4m3⟩
  | .local _ .vmem, ⟨5, _⟩ => ⟨S128x512, .i8⟩
  | .local _ .vmem, ⟨6, _⟩ => ⟨S128x512, .i8⟩
  | .local _ .vmem, ⟨7, _⟩ => ⟨S1536x512, .bf16⟩
  | .local _ .vmem, ⟨8, _⟩ => ⟨S1536x512, .bf16⟩
  | .local _ .vmem, ⟨9, _⟩ => ⟨S1536x4096, .fp8e4m3⟩
  | .local _ .vmem, ⟨10, _⟩ => ⟨S1536x128, .i8⟩
  | .local _ .vmem, ⟨11, _⟩ => ⟨S1536x4096, .bf16⟩
  | .local _ .vmem, ⟨12, _⟩ => ⟨S4096x512, .bf16⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v4_2 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg7_0 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10

abbrev nD : Nat := 1
abbrev τ : Topo := Topo.v7x

variable {F : FTy → Type} [FloatOps F]

abbrev grid0 : Pipeline.Grid := ⟨1, ![9], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_36 : BitVec 32 := 0#32
  let c6_i32 : BitVec 32 := 6#32
  let v73 : BitVec 32 := Scalar.addi c0_i32_36 c6_i32
  let c1_i32 : BitVec 32 := 1#32
  ⟨c0_i32_36, v73, c1_i32⟩
def k0_off1 (k0_t1 : Fin k0_t1_loop.trips) : Fin 2 → Nat :=
  let c0_i32_36 : BitVec 32 := 0#32
  let c1_i32 : BitVec 32 := 1#32
  let arg11 : BitVec 32 := Scf.iv c0_i32_36 c1_i32 k0_t1
  let c256_i32 : BitVec 32 := 256#32
  let v74 : BitVec 32 := Scalar.muli arg11 c256_i32
  let v75 : Index := Scalar.indexCast v74
  let c0_38 : Index := 0#32
  ![v75.toNat, 0]
def k0_off2 (k0_t1 : Fin k0_t1_loop.trips) : Fin 2 → Nat :=
  let c0_i32_36 : BitVec 32 := 0#32
  let c1_i32 : BitVec 32 := 1#32
  let arg11 : BitVec 32 := Scf.iv c0_i32_36 c1_i32 k0_t1
  let c256_i32 : BitVec 32 := 256#32
  let v74 : BitVec 32 := Scalar.muli arg11 c256_i32
  let v390 : Index := Scalar.indexCast v74
  let c0_135 : Index := 0#32
  ![v390.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x512 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1536x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1536x4096 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1536x128 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ReferenceIdeal.lean ====
abbrev S3x512x4096 : Shape := ⟨3, ![3, 512, 4096]⟩
abbrev S4096x4608 : Shape := ⟨2, ![4096, 4608]⟩
abbrev S128x4608 : Shape := ⟨2, ![128, 4608]⟩
abbrev S1536x4096 : Shape := ⟨2, ![1536, 4096]⟩
abbrev S1536x4608 : Shape := ⟨2, ![1536, 4608]⟩
abbrev S1536x128 : Shape := ⟨2, ![1536, 128]⟩
abbrev S1536x128x32 : Shape := ⟨3, ![1536, 128, 32]⟩
abbrev S1536x128x1 : Shape := ⟨3, ![1536, 128, 1]⟩
abbrev S128x1536x32 : Shape := ⟨3, ![128, 1536, 32]⟩
abbrev S128x32x4608 : Shape := ⟨3, ![128, 32, 4608]⟩
abbrev S128x1536x4608 : Shape := ⟨3, ![128, 1536, 4608]⟩
abbrev S128x1536 : Shape := ⟨2, ![128, 1536]⟩
abbrev S128x1536x1 : Shape := ⟨3, ![128, 1536, 1]⟩
abbrev S128x1x4608 : Shape := ⟨3, ![128, 1, 4608]⟩

abbrev nBuf : Space → Nat
  | .hbm => 7
  | .vmem => 6
  | .smem => 0
  | _ => 0

abbrev bufTy : (tb : Table) → Fin (tcTables nBuf tb) → BufTy
  | .hbm, ⟨0, _⟩ => ⟨S3x512x4096, .bf16⟩
  | .hbm, ⟨1, _⟩ => ⟨S4096x4608, .fp8e4m3⟩
  | .hbm, ⟨2, _⟩ => ⟨S128x4608, .i8⟩
  | .hbm, ⟨3, _⟩ => ⟨S1536x4096, .bf16⟩
  | .hbm, ⟨4, _⟩ => ⟨S1536x4608, .bf16⟩
  | .hbm, ⟨5, _⟩ => ⟨S1536x4096, .fp8e4m3⟩
  | .hbm, ⟨6, _⟩ => ⟨S1536x128, .i8⟩
  | .local _ .vmem, ⟨0, _⟩ => ⟨S1536x4096, .bf16⟩
  | .local _ .vmem, ⟨1, _⟩ => ⟨S4096x4608, .fp8e4m3⟩
  | .local _ .vmem, ⟨2, _⟩ => ⟨S128x4608, .i8⟩
  | .local _ .vmem, ⟨3, _⟩ => ⟨S1536x4608, .bf16⟩
  | .local _ .vmem, ⟨4, _⟩ => ⟨S1536x4096, .fp8e4m3⟩
  | .local _ .vmem, ⟨5, _⟩ => ⟨S1536x128, .i8⟩
  | _, _ => ⟨S3x512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1536x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x4608 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S128x4608 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1536x4608 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1536x4096 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1536x128 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Chunk.lean ====
/- What one trip of the kernel's loop computes from its 256 rows of activations, as plain functions: the tree that
   takes each group's largest magnitude, the codes, the scales and the dequantised activations. -/
module

public import proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

/-- The place `(r, c)` of a two-axis shape. -/
def at2 {a b : ℕ} (r c : ℕ) (hr : r < a) (hc : c < b) : (⟨2, ![a, b]⟩ : Shape).Idx
  | ⟨0, _⟩ => ⟨r, hr⟩
  | ⟨1, _⟩ => ⟨c, hc⟩

theorem slices_tile (j : Fin 32) : S256x4096.Slices ![0, 128 * j.val] S256x128 := by
  revert j; decide

/-- Columns `128 j … 128 j + 127` of the magnitudes. -/
def absTile (x : Vec F S256x4096 .bf16) (j : Fin 32) : FVec F S256x128 .f32 :=
  extractStridedSlice S256x128 ![0, 128 * j.val] (k0_pay3 x) (slices_tile j)

/-- The lanes whose bit `s` is clear. -/
def lowHalf (s : BitVec 32) : IVec S256x128 1 :=
  cmpi .eq (andi (iota .tc S256x128 32 [1] iota_S256x128_d1_w32) (broadcast S256x128 s)) (broadcast S256x128 0#32)

/-- Two tiles merged into one: a lane with bit `s` clear holds the larger of `a` there and `s` lanes up, a lane with
    it set the larger of `b` there and `s` lanes down (`u` is `128 - s`). -/
def merge (s u : BitVec 32) (a b : FVec F S256x128 .f32) : FVec F S256x128 .f32 :=
  select (lowHalf s) (maximumf a (dynamicRotate 1 u none a rotates_S256x128_d1))
    (maximumf b (dynamicRotate 1 s none b rotates_S256x128_d1))

/-- The merges by bit 16, 8, 4, 2 and 1 in turn. -/
def lvl1 (x : Vec F S256x4096 .bf16) (j : Fin 16) : FVec F S256x128 .f32 :=
  merge 16#32 112#32 (absTile x ⟨2 * j.val, by omega⟩) (absTile x ⟨2 * j.val + 1, by omega⟩)
def lvl2 (x : Vec F S256x4096 .bf16) (j : Fin 8) : FVec F S256x128 .f32 :=
  merge 8#32 120#32 (lvl1 x ⟨2 * j.val, by omega⟩) (lvl1 x ⟨2 * j.val + 1, by omega⟩)
def lvl3 (x : Vec F S256x4096 .bf16) (j : Fin 4) : FVec F S256x128 .f32 :=
  merge 4#32 124#32 (lvl2 x ⟨2 * j.val, by omega⟩) (lvl2 x ⟨2 * j.val + 1, by omega⟩)
def lvl4 (x : Vec F S256x4096 .bf16) (j : Fin 2) : FVec F S256x128 .f32 :=
  merge 2#32 126#32 (lvl3 x ⟨2 * j.val, by omega⟩) (lvl3 x ⟨2 * j.val + 1, by omega⟩)
def lvl5 (x : Vec F S256x4096 .bf16) : FVec F S256x128 .f32 :=
  merge 1#32 127#32 (lvl4 x ⟨0, by omega⟩) (lvl4 x ⟨1, by omega⟩)

/-- Each group's largest magnitude times the constant `1/448`, one lane per group. -/
def scaledMax (x : Vec F S256x4096 .bf16) : FVec F S256x128 .f32 :=
  mulf (lvl5 x) (broadcast S256x128 (Scalar.ofBits .f32 0x3B124925#32))

/-- The codes of 256 rows: the quotients, clipped and rounded. -/
def codesChunk (x : Vec F S256x4096 .bf16) (ex : Vec F S128x4096 .bf16) : FVec F S256x4096 .fp8e4m3 :=
  k0_pay75 (k0_pay1 ex) (k0_pay2 x) (scaledMax x) (k0_pay68 (scaledMax x) 0#32) (k0_pay69 (scaledMax x) 0#32) k0_pay70

/-- The codes of 256 rows, widened again. -/
def clipChunk (x : Vec F S256x4096 .bf16) (ex : Vec F S128x4096 .bf16) : FVec F S256x4096 .f32 :=
  extf .f32 (codesChunk x ex) bitsLt_fp8e4m3_f32

/-- The scales of 256 rows. -/
def scalesChunk (x : Vec F S256x4096 .bf16) (ord : Vec F S128x128 .bf16) : IVec S256x128 8 :=
  k0_pay76 (k0_pay74 ord (scaledMax x) (k0_pay68 (scaledMax x) 0#32) (k0_pay69 (scaledMax x) 0#32) k0_pay70)

/-- The dequantised activations of 256 rows. -/
def deqChunk (x : Vec F S256x4096 .bf16) (ex : Vec F S128x4096 .bf16) : FVec F S256x4096 .bf16 :=
  k0_pay77 (k0_pay73 (k0_pay1 ex) (scaledMax x) (k0_pay68 (scaledMax x) 0#32) (k0_pay69 (scaledMax x) 0#32) k0_pay70)
    (codesChunk x ex)

/-- Rows `256 k … 256 k + 255` of the activations. -/
def rowsOf (X : Vec F S1536x4096 .bf16) (k : Fin 6) : Vec F S256x4096 .bf16 :=
  fun y => X (at2 (256 * k.val + (y 0).val) (y 1).val (by have : (y 0).val < 256 := (y 0).isLt; omega) (y 1).isLt)

theorem row_div (n : Fin 1536) : n.val / 256 < 6 := by omega
theorem row_mod (n : Fin 1536) : n.val % 256 < 256 := by omega

/-- The codes of all rows, by chunks of 256. -/
def codesAll (X : Vec F S1536x4096 .bf16) (ex : Vec F S128x4096 .bf16) : Vec F S1536x4096 .fp8e4m3 :=
  fun y => codesChunk (rowsOf X ⟨(y 0).val / 256, row_div (y 0)⟩) ex (at2 ((y 0).val % 256) (y 1).val (row_mod (y 0)) (y 1).isLt)

/-- The scales of all rows, by chunks of 256. -/
def scalesAll (X : Vec F S1536x4096 .bf16) (ord : Vec F S128x128 .bf16) : Vec F S1536x128 .i8 :=
  fun y => scalesChunk (rowsOf X ⟨(y 0).val / 256, row_div (y 0)⟩) ord (at2 ((y 0).val % 256) (y 1).val (row_mod (y 0)) (y 1).isLt)

/-- The dequantised activations of all rows, by chunks of 256. -/
def deqAll (X : Vec F S1536x4096 .bf16) (ex : Vec F S128x4096 .bf16) : Vec F S1536x4096 .bf16 :=
  fun y => deqChunk (rowsOf X ⟨(y 0).val / 256, row_div (y 0)⟩) ex (at2 ((y 0).val % 256) (y 1).val (row_mod (y 0)) (y 1).isLt)

/-- Rows `512 k … 512 k + 511` of the dequantised activations. -/
def bandOf (D : Vec F S1536x4096 .bf16) (k : Fin 3) : Vec F S512x4096 .bf16 :=
  fun y => D (at2 (512 * k.val + (y 0).val) (y 1).val (by have : (y 0).val < 512 := (y 0).isLt; omega) (y 1).isLt)

theorem band_div (n : Fin 1536) : n.val / 512 < 3 := by omega
theorem band_mod (n : Fin 1536) : n.val % 512 < 512 := by omega

/-- The tile of the output made from the dequantised activations and one tile of weights, by bands of 512 rows. -/
def outTile (D : Vec F S1536x4096 .bf16) (w : Vec F S4096x512 .fp8e4m3) (ws : Vec F S128x512 .i8) : Vec F S1536x512 .bf16 :=
  fun y => k0_pay79 (bandOf D ⟨(y 0).val / 512, band_div (y 0)⟩) (k0_pay78 ws w)
    (at2 ((y 0).val % 512) (y 1).val (band_mod (y 0)) (y 1).isLt)

end Cert.KernelIdeal.Hand

end
-- ==== Proof.Trip.lean ====
/- What the kernel's loop leaves in the codes, the scales and the dequantised activations after its six trips. -/
module

public import proofs.«01_k».proof.Proof.Chunk
public import Idealize.ShloMosaic.Lib.Pipeline.FrameBody
public import Idealize.ShloMosaic.Lib.WordCmp
import all proofs.«01_k».proof.Proof.Gen.KernelIdeal.Loops

@[expose] public section

set_option maxRecDepth 16384

noncomputable section

namespace Cert.KernelIdeal.Hand

open Cert.KernelIdeal Cert.KernelIdeal.Gen
open Idealize.ShloMosaic Idealize.ShloMosaic.TcCoe

variable {F : FTy → Type} [FloatOps F]

theorem trips_eq : k0_t1_loop.trips = 6 := by decide

/-- Trip `k` starts at row `256 k`. -/
theorem off1_eq (k : Fin k0_t1_loop.trips) : k0_off1 k = ![256 * k.val, 0] := by
  revert k; decide
theorem off2_eq (k : Fin k0_t1_loop.trips) : k0_off2 k = ![256 * k.val, 0] := by
  revert k; decide

/-- A load of the rows of trip `k` is those rows of what the buffer reads. -/
theorem read_rows (i : grid0.Coords) (h1 : k0_cond1 i = 1#1) (arg1 : Memref sig .tc .vmem S1536x4096 .bf16)
    (X : BufTy.Contents (Elt F) arg1.view.ty) (k : Fin k0_t1_loop.trips) :
    View.readAt (Elt F) arg1.view (Rect.unit (s := S1536x4096) (k0_off1 k) S256x4096.size (k0_off1_inb i k h1)).toLoadRect X
      = rowsOf (arg1.view.read (Elt F) X) ⟨k.val, lt_of_lt_of_eq k.isLt trips_eq⟩ := by
  funext y
  show arg1.view.read (Elt F) X _ = arg1.view.read (Elt F) X _
  congr 1
  funext a
  apply Fin.ext
  have h : ∀ b, k0_off1 k b = (![256 * k.val, 0] : Fin 2 → ℕ) b := fun b => congrFun (off1_eq k) b
  fin_cases a
  · show k0_off1 k 0 + 1 * (y 0).val = 256 * k.val + (y 0).val
    rw [h 0]; simp
  · show k0_off1 k 1 + 1 * (y 1).val = (y 1).val
    rw [h 1]; simp

/-- A load of a whole buffer is what it reads. -/
theorem read_whole {s : Shape} {e : EltTy} (arg : Memref sig .tc .vmem s e) (X : BufTy.Contents (Elt F) arg.view.ty)
    {off : Fin s.rank → ℕ} (h0 : ∀ a, off a = 0) (inb : ∀ a, off a + s.size a ≤ s.size a) :
    View.readAt (Elt F) arg.view (Rect.unit off s.size inb).toLoadRect X = arg.view.read (Elt F) X := by
  funext y
  show arg.view.read (Elt F) X _ = arg.view.read (Elt F) X _
  congr 1
  funext a
  apply Fin.ext
  show off a + 1 * (y a).val = (y a).val
  rw [h0 a]; simp

theorem zero2 : ∀ a : Fin 2, (![0, 0] : Fin 2 → ℕ) a = 0 := by decide

/-- A function given by chunks of 256 rows, at a place of chunk `n`. -/
theorem rows_eq {n w : ℕ} {α : Type*} (f : Fin 6 → (⟨2, ![256, w]⟩ : Shape).Idx → α) (hn : n + 1 ≤ 6) {off : Fin 2 → ℕ} (e : off = ![256 * n, 0])
    (inb : ∀ a : Fin 2, off a + (![256, w] : Fin 2 → ℕ) a ≤ (![1536, w] : Fin 2 → ℕ) a) (y : (⟨2, ![256, w]⟩ : Shape).Idx) :
    (fun z : (⟨2, ![1536, w]⟩ : Shape).Idx => f ⟨(z 0).val / 256, row_div (z 0)⟩ (at2 ((z 0).val % 256) (z 1).val (row_mod (z 0)) (z 1).isLt))
        ((Rect.unit (s := ⟨2, ![1536, w]⟩) off ![256, w] inb).emb y)
      = f ⟨n, by omega⟩ y := by
  subst e
  have h0 : (((Rect.unit (s := ⟨2, ![1536, w]⟩) ![256 * n, 0] ![256, w] inb).emb y) 0).val = 256 * n + (y 0).val := by
    show 256 * n + 1 * (y 0).val = _
    omega
  have h1 : (((Rect.unit (s := ⟨2, ![1536, w]⟩) ![256 * n, 0] ![256, w] inb).emb y) 1).val = (y 1).val := by
    show 0 + 1 * (y 1).val = _
    omega
  have hy : (y 0).val < 256 := (y 0).isLt
  show f _ _ = f _ _
  congr 1
  · apply Fin.ext; show _ / 256 = n; rw [h0]; omega
  · funext a
    apply Fin.ext
    fin_cases a
    · show _ % 256 = (y 0).val; rw [h0]; omega
    · show _ = (y 1).val; exact h1

/-- The rows below `256 (n + 1)` are those of chunk `n` and the rows below `256 n`. -/
theorem rows_cover {n w : ℕ} {Val : EltTy → Type} {e : EltTy} {off : Fin 2 → ℕ} (eo : off = ![256 * n, 0])
    (inb : ∀ a : Fin 2, off a + (![256, w] : Fin 2 → ℕ) a ≤ (![1536, w] : Fin 2 → ℕ) a)
    (v : (⟨2, ![256, w]⟩ : Shape).Idx → Val e)
    {L : List (View.Piece Val (⟨2, ![1536, w]⟩ : Shape) e)} (y : (⟨2, ![1536, w]⟩ : Shape).Idx) (hy : (y 0).val < 256 * (n + 1))
    (h : (y 0).val < 256 * n → ∃ p ∈ L, y ∈ p.1.set) :
    ∃ p ∈ [(⟨Rect.unit (s := ⟨2, ![1536, w]⟩) off ![256, w] inb, v⟩ : View.Piece Val (⟨2, ![1536, w]⟩ : Shape) e)] ++ L, y ∈ p.1.set := by
  subst eo
  by_cases hl : (y 0).val < 256 * n
  · obtain ⟨p, hp, hp'⟩ := h hl
    exact ⟨p, List.mem_append_right _ hp, hp'⟩
  · refine ⟨_, List.mem_append_left _ (List.mem_singleton.mpr rfl), ?_⟩
    refine (Rect.unit (s := ⟨2, ![1536, w]⟩) ![256 * n, 0] ![256, w] inb).mem_set.mpr fun a => ?_
    fin_cases a
    · exact ⟨(y 0).val - 256 * n, by show (y 0).val - 256 * n < 256; omega, by show (y 0).val = 256 * n + 1 * ((y 0).val - 256 * n); omega⟩
    · exact ⟨(y 1).val, (y 1).isLt, by show (y 1).val = 0 + 1 * (y 1).val; omega⟩

section
variable (𝒱 : Variants) (c : Dev nD) (bd : Option 𝒱.V) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (k0_h1 : k0_cond1 i = 1#1) (X_arg1 : BufTy.Contents (Elt F) arg1.view.ty) (X_arg2 : BufTy.Contents (Elt F) arg2.view.ty) (X_arg3 : BufTy.Contents (Elt F) arg3.view.ty)

/-- One trip stores one piece to each of the three buffers. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k
      = ([⟨Rect.unit (s := S1536x4096) (k0_off1 k) S256x4096.size (k0_off1_inb i k k0_h1),
            codesChunk (View.readAt (Elt F) arg1.view (Rect.unit (s := S1536x4096) (k0_off1 k) S256x4096.size (k0_off1_inb i k k0_h1)).toLoadRect X_arg1)
              (View.readAt (Elt F) arg2.view (Rect.unit (s := S128x4096) ![0, 0] S128x4096.size inb_S128x4096_S128x4096_0_0).toLoadRect X_arg2)⟩],
        [⟨Rect.unit (s := S1536x128) (k0_off2 k) S256x128.size (k0_off2_inb i k k0_h1),
            scalesChunk (View.readAt (Elt F) arg1.view (Rect.unit (s := S1536x4096) (k0_off1 k) S256x4096.size (k0_off1_inb i k k0_h1)).toLoadRect X_arg1)
              (View.readAt (Elt F) arg3.view (Rect.unit (s := S128x128) ![0, 0] S128x128.size inb_S128x128_S128x128_0_0).toLoadRect X_arg3)⟩],
        [⟨Rect.unit (s := S1536x4096) (k0_off1 k) S256x4096.size (k0_off1_inb i k k0_h1),
            deqChunk (View.readAt (Elt F) arg1.view (Rect.unit (s := S1536x4096) (k0_off1 k) S256x4096.size (k0_off1_inb i k k0_h1)).toLoadRect X_arg1)
              (View.readAt (Elt F) arg2.view (Rect.unit (s := S128x4096) ![0, 0] S128x4096.size inb_S128x4096_S128x4096_0_0).toLoadRect X_arg2)⟩]) := by
  unfold tripL_k0_t1 trip_k0_t1
  rfl

/-- Every piece of the first `n` trips is a piece of one trip: the three buffers' pieces agree with `codesAll`,
    `scalesAll` and `deqAll`, and they cover the rows below `256 n`. -/
theorem pb_spec (n : ℕ) (hn : n ≤ 6) :
    ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).1, ∀ y : p.1.shape.Idx, p.2 y = codesAll (arg1.view.read (Elt F) X_arg1) (arg2.view.read (Elt F) X_arg2) (p.1.emb y))
      ∧ ∀ y : S1536x4096.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).1, y ∈ p.1.set)
    ∧ ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.1, ∀ y : p.1.shape.Idx, p.2 y = scalesAll (arg1.view.read (Elt F) X_arg1) (arg3.view.read (Elt F) X_arg3) (p.1.emb y))
      ∧ ∀ y : S1536x128.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.1, y ∈ p.1.set)
    ∧ ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.2, ∀ y : p.1.shape.Idx, p.2 y = deqAll (arg1.view.read (Elt F) X_arg1) (arg2.view.read (Elt F) X_arg2) (p.1.emb y))
      ∧ ∀ y : S1536x4096.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.2, y ∈ p.1.set) := by
  induction n with
  | zero =>
    refine ⟨⟨?_, ?_⟩, ⟨?_, ?_⟩, ⟨?_, ?_⟩⟩
    all_goals first
      | (intro p hp; exact absurd hp List.not_mem_nil)
      | (intro y hy; exact absurd hy (by omega))
  | succ n ih =>
    obtain ⟨⟨a1, a2⟩, ⟨b1, b2⟩, ⟨d1, d2⟩⟩ := ih (by omega)
    have hk : n < k0_t1_loop.trips := by rw [trips_eq]; omega
    have hs := pb_k0_t1_succ (F := F) 𝒱 c bd i arg1 harg1 arg2 harg2 arg3 harg3 arg4 harg4 arg5 harg5 arg6 harg6 arg7 harg7 arg8 harg8 arg9 harg9 arg10 harg10 k0_h1 X_arg1 X_arg2 X_arg3 ⟨n, hk⟩
    rw [tripL_eq] at hs
    rw [read_rows i k0_h1, read_whole arg2 X_arg2 zero2, read_whole arg3 X_arg3 zero2] at hs
    have e1 : k0_off1 ⟨n, hk⟩ = ![256 * n, 0] := off1_eq ⟨n, hk⟩
    have e2 : k0_off2 ⟨n, hk⟩ = ![256 * n, 0] := off2_eq ⟨n, hk⟩
    rw [hs]
    refine ⟨⟨?_, ?_⟩, ⟨?_, ?_⟩, ⟨?_, ?_⟩⟩
    · intro p hp
      rcases List.mem_append.mp hp with hp | hp
      · obtain rfl := List.mem_singleton.mp hp
        intro y
        exact (rows_eq (fun k z => codesChunk (rowsOf (arg1.view.read (Elt F) X_arg1) k) (arg2.view.read (Elt F) X_arg2) z) hn e1 (k0_off1_inb i ⟨n, hk⟩ k0_h1) y).symm
      · exact a1 p hp
    · intro y hy
      exact rows_cover e1 (k0_off1_inb i ⟨n, hk⟩ k0_h1) _ y hy (a2 y)
    · intro p hp
      rcases List.mem_append.mp hp with hp | hp
      · obtain rfl := List.mem_singleton.mp hp
        intro y
        exact (rows_eq (fun k z => scalesChunk (rowsOf (arg1.view.read (Elt F) X_arg1) k) (arg3.view.read (Elt F) X_arg3) z) hn e2 (k0_off2_inb i ⟨n, hk⟩ k0_h1) y).symm
      · exact b1 p hp
    · intro y hy
      exact rows_cover e2 (k0_off2_inb i ⟨n, hk⟩ k0_h1) _ y hy (b2 y)
    · intro p hp
      rcases List.mem_append.mp hp with hp | hp
      · obtain rfl := List.mem_singleton.mp hp
        intro y
        exact (rows_eq (fun k z => deqChunk (rowsOf (arg1.view.read (Elt F) X_arg1) k) (arg2.view.read (Elt F) X_arg2) z) hn e1 (k0_off1_inb i ⟨n, hk⟩ k0_h1) y).symm
      · exact d1 p hp
    · intro y hy
      exact rows_cover e1 (k0_off1_inb i ⟨n, hk⟩ k0_h1) _ y hy (d2 y)

/-- After the loop the codes' buffer reads `codesAll`, whatever it held. -/
theorem read_codes (G : BufTy.Contents (Elt F) arg7.view.ty) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).1)
      = codesAll (arg1.view.read (Elt F) X_arg1) (arg2.view.read (Elt F) X_arg2) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).1
  funext y
  exact View.read_writes_apply_of_pieces _ _ _ _ h.1 y (h.2 y (y 0).isLt)

/-- After the loop the scales' buffer reads `scalesAll`. -/
theorem read_scales (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).2.1)
      = scalesAll (arg1.view.read (Elt F) X_arg1) (arg3.view.read (Elt F) X_arg3) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).2.1
  funext y
  exact View.read_writes_apply_of_pieces _ _ _ _ h.1 y (h.2 y (y 0).isLt)

/-- After the loop the scratch reads `deqAll`. -/
theorem read_deq (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).2.2)
      = deqAll (arg1.view.read (Elt F) X_arg1) (arg2.view.read (Elt F) X_arg2) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).2.2
  funext y
  exact View.read_writes_apply_of_pieces _ _ _ _ h.1 y (h.2 y (y 0).isLt)

end

end Cert.KernelIdeal.Hand

end
-- ==== Proof.Runs.lean ====
/- What the runs of the kernel's body share: where its branch is taken, its staging buffers and its scratch. -/
module

public import proofs.«01_k».proof.Proof.Gen.KernelIdeal.Frame
public import proofs.«01_k».proof.Proof.Gen.KernelIdeal.Points
public import proofs.«01_k».proof.Proof.Trip
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x128 .i8 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x4096 .bf16 := Memref.whole cc0_scratch0
abbrev scM0_1 : Memref sig .tc .vmem S4096x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Windows 6 and 7 are idle at every point but the first. -/
theorem idleAt0_6 (t : Fin cfg0.N) (h : ¬ t.val % 9 = 0) : cfg0.idle 6 (grid0.coords t) = true := by
  show (!(k0_cond1 (grid0.coords t) == 1#1)) = true
  rw [beq_false_of_ne (fun hc => h ((hcond0_0 t).mp hc))]; rfl
theorem liveAt0_6 (t : Fin cfg0.N) (h : t.val % 9 = 0) : cfg0.idle 6 (grid0.coords t) = false := by
  show (!(k0_cond1 (grid0.coords t) == 1#1)) = false
  rw [show k0_cond1 (grid0.coords t) = 1#1 from (hcond0_0 t).mpr h]; rfl
theorem idleAt0_7 (t : Fin cfg0.N) (h : ¬ t.val % 9 = 0) : cfg0.idle 7 (grid0.coords t) = true := by
  show (!(k0_cond1 (grid0.coords t) == 1#1)) = true
  rw [beq_false_of_ne (fun hc => h ((hcond0_0 t).mp hc))]; rfl
theorem liveAt0_7 (t : Fin cfg0.N) (h : t.val % 9 = 0) : cfg0.idle 7 (grid0.coords t) = false := by
  show (!(k0_cond1 (grid0.coords t) == 1#1)) = false
  rw [show k0_cond1 (grid0.coords t) = 1#1 from (hcond0_0 t).mpr h]; rfl
theorem liveAt0_5 : ∀ t : Fin cfg0.N, cfg0.idle 5 (grid0.coords t) = false := fun _ => rfl

/-- Three bands of 512 rows stored one after another, read back. -/
theorem read_bands {v : View sig .tc .vmem S1536x512 .bf16} (f : v.ty.Contents (Elt F)) (D : Vec F S1536x4096 .bf16)
    (w : Vec F S4096x512 .fp8e4m3) (ws : Vec F S128x512 .i8) (p0 p1 p2 : FVec F S512x512 .bf16)
    (h0 : p0 = k0_pay79 (bandOf D 0) (k0_pay78 ws w)) (h1 : p1 = k0_pay79 (bandOf D 1) (k0_pay78 ws w))
    (h2 : p2 = k0_pay79 (bandOf D 2) (k0_pay78 ws w)) :
    v.read (Elt F) (v.writes (Elt F) f
      [⟨Rect.unit (s := S1536x512) ![1024, 0] S512x512.size inb_S1536x512_S512x512_1024_0, p2⟩,
       ⟨Rect.unit (s := S1536x512) ![512, 0] S512x512.size inb_S1536x512_S512x512_512_0, p1⟩,
       ⟨Rect.unit (s := S1536x512) ![0, 0] S512x512.size inb_S1536x512_S512x512_0_0, p0⟩]) = outTile D w ws := by
  subst h0 h1 h2
  funext y
  have hy0 : (y 0).val < 1536 := (y 0).isLt
  have key : ∀ (k : Fin 3) (z : S512x512.Idx), (y 0).val = 512 * k.val + (z 0).val → (y 1).val = (z 1).val →
      k0_pay79 (bandOf D k) (k0_pay78 ws w) z = outTile D w ws y := by
    intro k z e0 e1
    have hz : (z 0).val < 512 := (z 0).isLt
    have hk : (⟨(y 0).val / 512, band_div (y 0)⟩ : Fin 3) = k := Fin.ext (by show (y 0).val / 512 = k.val; omega)
    have hzz : (at2 ((y 0).val % 512) (y 1).val (band_mod (y 0)) (y 1).isLt : S512x512.Idx) = z := by
      funext a
      apply Fin.ext
      fin_cases a
      · show (y 0).val % 512 = (z 0).val; omega
      · exact e1
    show _ = k0_pay79 (bandOf D ⟨(y 0).val / 512, band_div (y 0)⟩) (k0_pay78 ws w) _
    rw [hk, hzz]
  by_cases c2 : 1024 ≤ (y 0).val
  · rw [View.read_writes_cons_hit_of_coords v f _ _ _ (at2 ((y 0).val - 1024) (y 1).val (by omega) (y 1).isLt : S512x512.Idx) y ?_]
    · exact key 2 _ (by show (y 0).val = 512 * 2 + ((y 0).val - 1024); omega) rfl
    · intro a
      fin_cases a
      · show (y 0).val = 1024 + 1 * ((y 0).val - 1024); omega
      · show (y 1).val = 0 + 1 * (y 1).val; omega
  · rw [View.read_writes_cons_miss_of_axis v f _ _ y 0 1024 512 rfl rfl rfl (Or.inl (by omega))]
    by_cases c1 : 512 ≤ (y 0).val
    · rw [View.read_writes_cons_hit_of_coords v f _ _ _ (at2 ((y 0).val - 512) (y 1).val (by omega) (y 1).isLt : S512x512.Idx) y ?_]
      · exact key 1 _ (by show (y 0).val = 512 * 1 + ((y 0).val - 512); omega) rfl
      · intro a
        fin_cases a
        · show (y 0).val = 512 + 1 * ((y 0).val - 512); omega
        · show (y 1).val = 0 + 1 * (y 1).val; omega
    · rw [View.read_writes_cons_miss_of_axis v f _ _ y 0 512 512 rfl rfl rfl (Or.inl (by omega))]
      rw [View.read_writes_cons_hit_of_coords v f _ _ _ (at2 (y 0).val (y 1).val (by omega) (y 1).isLt : S512x512.Idx) y ?_]
      · exact key 0 _ (by show (y 0).val = 512 * 0 + (y 0).val; omega) rfl
      · intro a
        fin_cases a
        · show (y 0).val = 0 + 1 * (y 0).val; omega
        · show (y 1).val = 0 + 1 * (y 1).val; omega

/-- A load of a band of 512 rows is that band of what the buffer reads. -/
theorem read_band (v : View sig .tc .vmem S1536x4096 .bf16) (X : v.ty.Contents (Elt F)) (k : Fin 3) {off : Fin 2 → ℕ}
    (e : off = ![512 * k.val, 0]) (inb : ∀ a : Fin 2, off a + (![512, 4096] : Fin 2 → ℕ) a ≤ (![1536, 4096] : Fin 2 → ℕ) a) :
    View.readAt (Elt F) v (Rect.unit (s := S1536x4096) off ![512, 4096] inb).toLoadRect X = bandOf (v.read (Elt F) X) k := by
  subst e
  funext y
  show v.read (Elt F) X _ = v.read (Elt F) X _
  congr 1
  funext a
  apply Fin.ext
  fin_cases a
  · show 512 * k.val + 1 * (y 0).val = 512 * k.val + (y 0).val
    omega
  · show 0 + 1 * (y 1).val = (y 1).val
    omega

end Cert.KernelIdeal.Hand

end
-- ==== Proof.RunA.lean ====
/- The kernel's body run at the first grid point. -/
module

public import proofs.«01_k».proof.Proof.Gen.KernelIdeal.Frame
public import proofs.«01_k».proof.Proof.Runs

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body at the first point: it leaves the codes, the scales and the dequantised activations of all rows, and the
    first tile of the output. -/
theorem run_A (c : Dev nD) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (hc0 : cond0_0 i)
    (x0 : Vec F S1536x4096 .bf16) (x1 : Vec F S128x4096 .bf16) (x2 : Vec F S128x128 .bf16) (x3 : Vec F S4096x512 .fp8e4m3) (x4 : Vec F S128x512 .i8) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outTile (deqAll x0 x1) x3 x4) ∗ owns (c : Thread nD τ) arg7 fullShare (codesAll x0 x1) ∗ owns (c : Thread nD τ) arg8 fullShare (scalesAll x0 x2) ∗ owns (c : Thread nD τ) arg9 fullShare (deqAll x0 x1) ∗ (∃ d, owns (c : Thread nD τ) arg10 fullShare d)) -∗ K ⟨⟩))
          ⊢ wp frame (wpE (defs₀ (F := F)) Variants.none c none) E (cc0_mxfp8_linear_gelu i arg1 harg1 arg2 harg2 arg3 harg3 arg4 harg4 arg5 harg5 arg6 harg6 arg7 harg7 arg8 harg8 arg9 harg9 arg10 harg10) K := by
    intro E K
    simp only [cc0_mxfp8_linear_gelu_eq_skeleton]; unfold cc0_mxfp8_linear_gelu_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      have hW : ∀ inb, arg10.view.readCov (run_A.sl.HS1_1 c arg4 arg5 f3 f4)
          (Rect.unit (s := S4096x512) ![0, 0] S4096x512.size inb).toLoadRect = k0_pay78 x4 x3 := by
        intro inb
        unfold run_A.sl.HS1_1
        refine (View.readCov_unit_lit arg10.view inb _ zero2).trans ?_
        exact congrArg₂ k0_pay78 ((read_whole arg5 f4 zero2 _).trans hf4) ((read_whole arg4 f3 zero2 _).trans hf3)
      have hD := read_deq Variants.none c none i arg1 harg1 arg2 harg2 arg3 harg3 arg4 harg4 arg5 harg5 arg6 harg6 arg7 harg7 arg8 harg8 arg9 harg9 arg10 harg10 hc0 f0 f1 f2 fs0
      rw [hf0, hf1] at hD
      refine read_bands f5 _ x3 x4 _ _ _ ?_ ?_ ?_
      · unfold run_A.sl.r run_A.sl.v19 run_A.sl.v20
        exact congrArg₂ k0_pay79 ((read_band arg9.view _ 0 rfl _).trans (congrArg (bandOf · 0) hD)) (hW _)
      · unfold run_A.sl.v37 run_A.sl.v20
        exact congrArg₂ k0_pay79 ((read_band arg9.view _ 1 rfl _).trans (congrArg (bandOf · 1) hD)) (hW _)
      · unfold run_A.sl.r_1 run_A.sl.v55 run_A.sl.v20
        exact congrArg₂ k0_pay79 ((read_band arg9.view _ 2 rfl _).trans (congrArg (bandOf · 2) hD)) (hW _)
    isplitl [H6]
    · iexists _; isplitr; swap; · iexact H6
      ipureintro
      subst hf0 hf1; exact read_codes _ c _ i arg1 harg1 arg2 harg2 arg3 harg3 arg4 harg4 arg5 harg5 arg6 harg6 arg7 harg7 arg8 harg8 arg9 harg9 arg10 harg10 hc0 f0 f1 f2 f6
    isplitl [H7]
    · iexists _; isplitr; swap; · iexact H7
      ipureintro
      subst hf0 hf2; exact read_scales _ c _ i arg1 harg1 arg2 harg2 arg3 harg3 arg4 harg4 arg5 harg5 arg6 harg6 arg7 harg7 arg8 harg8 arg9 harg9 arg10 harg10 hc0 f0 f1 f2 f7
    isplitl [HS0]
    · iexists _; isplitr; swap; · iexact HS0
      ipureintro
      subst hf0 hf1; exact read_deq _ c _ i arg1 harg1 arg2 harg2 arg3 harg3 arg4 harg4 arg5 harg5 arg6 harg6 arg7 harg7 arg8 harg8 arg9 harg9 arg10 harg10 hc0 f0 f1 f2 fs0
    iexists _, _; isplitr; swap; · iexact HS1
    ipureintro; rfl

end Cert.KernelIdeal.Hand

end
-- ==== Proof.RunB.lean ====
/- The kernel's body run at a later grid point. -/
module

public import proofs.«01_k».proof.Proof.Gen.KernelIdeal.Frame
public import proofs.«01_k».proof.Proof.RunA

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body at a later point: the dequantised activations `D` that the scratch holds and this tile of weights make this
    tile of the output; the codes' and scales' buffers stay as they were. -/
theorem run_B (c : Dev nD) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (hc0 : ¬ cond0_0 i)
    (x0 : Vec F S1536x4096 .bf16) (x1 : Vec F S128x4096 .bf16) (x2 : Vec F S128x128 .bf16) (x3 : Vec F S4096x512 .fp8e4m3) (x4 : Vec F S128x512 .i8) (g6 : Vec F S1536x4096 .fp8e4m3) (g7 : Vec F S1536x128 .i8) (D : Vec F S1536x4096 .bf16) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare g6 ∗ owns (c : Thread nD τ) arg8 fullShare g7 ∗ owns (c : Thread nD τ) arg9 fullShare D ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outTile D x3 x4) ∗ owns (c : Thread nD τ) arg7 fullShare g6 ∗ owns (c : Thread nD τ) arg8 fullShare g7 ∗ owns (c : Thread nD τ) arg9 fullShare D ∗ (∃ d, owns (c : Thread nD τ) arg10 fullShare d)) -∗ K ⟨⟩))
          ⊢ wp frame (wpE (defs₀ (F := F)) Variants.none c none) E (cc0_mxfp8_linear_gelu i arg1 harg1 arg2 harg2 arg3 harg3 arg4 harg4 arg5 harg5 arg6 harg6 arg7 harg7 arg8 harg8 arg9 harg9 arg10 harg10) K := by
    intro E K
    simp only [cc0_mxfp8_linear_gelu_eq_skeleton]; unfold cc0_mxfp8_linear_gelu_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, Hk⟩
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      have hW : ∀ inb, arg10.view.readCov (run_B.sl.HS1_1 c arg4 arg5 f3 f4)
          (Rect.unit (s := S4096x512) ![0, 0] S4096x512.size inb).toLoadRect = k0_pay78 x4 x3 := by
        intro inb
        unfold run_B.sl.HS1_1
        refine (View.readCov_unit_lit arg10.view inb _ zero2).trans ?_
        exact congrArg₂ k0_pay78 ((read_whole arg5 f4 zero2 _).trans hf4) ((read_whole arg4 f3 zero2 _).trans hf3)
      have hD := hfs0
      skip
      refine read_bands f5 _ x3 x4 _ _ _ ?_ ?_ ?_
      · unfold run_B.sl.r run_B.sl.v20
        exact congrArg₂ k0_pay79 ((read_band arg9.view _ 0 rfl _).trans (congrArg (bandOf · 0) hD)) (hW _)
      · unfold run_B.sl.v20
        exact congrArg₂ k0_pay79 ((read_band arg9.view _ 1 rfl _).trans (congrArg (bandOf · 1) hD)) (hW _)
      · unfold run_B.sl.r_1 run_B.sl.v20
        exact congrArg₂ k0_pay79 ((read_band arg9.view _ 2 rfl _).trans (congrArg (bandOf · 2) hD)) (hW _)
    isplitl [H6]
    · iexists _; isplitr; swap; · iexact H6
      ipureintro
      exact hf6
    isplitl [H7]
    · iexists _; isplitr; swap; · iexact H7
      ipureintro
      exact hf7
    isplitl [HS0]
    · iexists _; isplitr; swap; · iexact HS0
      ipureintro
      exact hfs0
    iexists _, _; isplitr; swap; · iexact HS1
    ipureintro; rfl

end Cert.KernelIdeal.Hand

end
-- ==== Proof.FrameHand.lean ====
/- The kernel's whole run: from what the body does at a point (RunA, RunB) to what the three result arrays hold at the
   end. The scratch carries the dequantised activations from the first point to the last, so the invariant names them. -/
module

public import proofs.«01_k».proof.Proof.RunB
public import Idealize.ShloMosaic.Lib.Pipeline.TableIdle
public import Idealize.ShloMosaic.Lib.Claim

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the run leaves -/

/-- The first grid point. -/
def pt0 : Fin cfg0.N := ⟨0, lt_of_lt_of_eq (by decide : 0 < 9) N_0.symm⟩

theorem eq_pt0 (t : Fin cfg0.N) (h : t.val % 9 = 0) : t = pt0 := by
  have ht : t.val < 9 := Nat.lt_of_lt_of_eq t.isLt N_0
  exact Fin.ext (by show t.val = 0; omega)

/-- The codes of all rows, of the activations and the expansion matrix the region finds. -/
def codesOut (c : Dev nD) : Vec F S1536x4096 .fp8e4m3 := codesAll (iblk m c 0 pt0) (iblk m c 1 pt0)
/-- The scales of all rows. -/
def scalesOut (c : Dev nD) : Vec F S1536x128 .i8 := scalesAll (iblk m c 0 pt0) (iblk m c 2 pt0)
/-- The dequantised activations of all rows: what the scratch carries. -/
def deqOut (c : Dev nD) : Vec F S1536x4096 .bf16 := deqAll (iblk m c 0 pt0) (iblk m c 1 pt0)
/-- The tile of the output that point `t` makes. -/
def tileOut (c : Dev nD) (t : Fin cfg0.N) : Vec F S1536x512 .bf16 := outTile (deqOut m c) (iblk m c 3 t) (iblk m c 4 t)

/-! ## The pipeline's proof data -/

/-- The invariant after the first point: the first scratch buffer at the dequantised activations. -/
def Carried (c : Dev nD) : sProp (MT nD τ sig Unit (Elt F) ℕ (UR sig nD τ) ℕ) :=
  iprop(iprop(owns (c : Thread nD τ) scM0_0 fullShare (deqOut m c) ∗ (∃ d, owns (c : Thread nD τ) scM0_1 fullShare d)) ∗ (∃ r, prngReg c r))

/-- The invariant before point `n`. -/
def inv (c : Dev nD) : ℕ → sProp (MT nD τ sig Unit (Elt F) ℕ (UR sig nD τ) ℕ)
  | 0 => Pipeline.ΦA spec0 c
  | _ + 1 => Carried m c

/-- The proof data on core `c`: the arrays as the region finds them, each input's buffer at its block, each output's at
    what the run leaves there, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut m c t
    | ⟨6, _⟩ => codesOut m c
    | ⟨7, _⟩ => scalesOut m c
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileOut m c t := by dsimp only [dats]
theorem after0_6 (c : Dev nD) (t : Fin cfg0.N) : (dats m 0 c).after 6 t = codesOut m c := by dsimp only [dats]
theorem after0_7 (c : Dev nD) (t : Fin cfg0.N) : (dats m 0 c).after 7 t = scalesOut m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output window 6's buffer holds what that point stored: it is written back at the last point only. -/
theorem fresh0_6 (n : ℕ) (hn : n + 1 < 9) : cfg0.fresh 6 (n + 1) = false := by
  induction n with
  | zero =>
    have h : 0 < cfg0.N := lt_of_lt_of_eq (by decide : 0 < 9) N_0.symm
    rw [Cfg.fresh_succ cfg0 6 0 h, liveAt0_6 ⟨0, h⟩ rfl, Bool.false_and, Bool.or_false]
    exact Bool.eq_false_iff.mpr fun hf => absurd ((flush0_6 ⟨0, h⟩).mp hf) (by show ¬ 0 % 9 = 8; decide)
  | succ n ih =>
    have h : n + 1 < cfg0.N := lt_of_lt_of_eq (by omega : n + 1 < 9) N_0.symm
    rw [Cfg.fresh_succ cfg0 6 (n + 1) h, ih (by omega), Bool.and_false, Bool.or_false]
    exact Bool.eq_false_iff.mpr fun hf => absurd ((flush0_6 ⟨n + 1, h⟩).mp hf) (by show ¬ (n + 1) % 9 = 8; omega)

theorem before0_6 (c : Dev nD) (t : Fin cfg0.N) (h0 : ¬ t.val % 9 = 0) (d) : (dats m 0 c).before 6 t d = codesOut m c := by
  have ht : t.val < 9 := Nat.lt_of_lt_of_eq t.isLt N_0
  rw [(dats m 0 c).before_out_traj 6 rfl (fun _ _ => rfl) (fun t _ _ _ => (after0_6 m c t).trans (after0_6 m c _).symm) t.val t rfl d, after0_6]
  obtain ⟨n, hn⟩ : ∃ n, t.val = n + 1 := ⟨t.val - 1, by omega⟩
  rw [hn, fresh0_6 n (by omega)]
  exact if_neg Bool.false_ne_true

/-- After the first point output window 7's buffer holds what that point stored: it is written back at the last point only. -/
theorem fresh0_7 (n : ℕ) (hn : n + 1 < 9) : cfg0.fresh 7 (n + 1) = false := by
  induction n with
  | zero =>
    have h : 0 < cfg0.N := lt_of_lt_of_eq (by decide : 0 < 9) N_0.symm
    rw [Cfg.fresh_succ cfg0 7 0 h, liveAt0_7 ⟨0, h⟩ rfl, Bool.false_and, Bool.or_false]
    exact Bool.eq_false_iff.mpr fun hf => absurd ((flush0_7 ⟨0, h⟩).mp hf) (by show ¬ 0 % 9 = 8; decide)
  | succ n ih =>
    have h : n + 1 < cfg0.N := lt_of_lt_of_eq (by omega : n + 1 < 9) N_0.symm
    rw [Cfg.fresh_succ cfg0 7 (n + 1) h, ih (by omega), Bool.and_false, Bool.or_false]
    exact Bool.eq_false_iff.mpr fun hf => absurd ((flush0_7 ⟨n + 1, h⟩).mp hf) (by show ¬ (n + 1) % 9 = 8; omega)

theorem before0_7 (c : Dev nD) (t : Fin cfg0.N) (h0 : ¬ t.val % 9 = 0) (d) : (dats m 0 c).before 7 t d = scalesOut m c := by
  have ht : t.val < 9 := Nat.lt_of_lt_of_eq t.isLt N_0
  rw [(dats m 0 c).before_out_traj 7 rfl (fun _ _ => rfl) (fun t _ _ _ => (after0_7 m c t).trans (after0_7 m c _).symm) t.val t rfl d, after0_7]
  obtain ⟨n, hn⟩ : ∃ n, t.val = n + 1 := ⟨t.val - 1, by omega⟩
  rw [hn, fresh0_7 n (by omega)]
  exact if_neg Bool.false_ne_true

/-! ## The body obligation, at a generic point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The post of an output window that later points leave alone: what it held before. -/
theorem leaves_kept (c : Dev nD) (w : Fin cfg0.W) (t : Fin cfg0.N) (hi : cfg0.idle w (cfg0.grid.coords t) = true) (Y : (cfg0.win w).block.Idx → Elt F (cfg0.win w).elt)
    (hb : ∀ d, (dats m 0 c).before w t d = Y) (ha : (dats m 0 c).after w t = Y) :
    owns (c : Thread nD τ) ((cfg0.win w).stage (cfg0.slots t w)) fullShare Y ⊢ ((dats m 0 c).leavesExact w t : sProp (MT nD τ sig Unit (Elt F) ℕ (UR sig nD τ) ℕ)) := by
  unfold Dat.leavesExact; rw [hi]
  cases (cfg0.win w).flush t
  · iintro H
    iexists Y
    rw [hb]; iexact H
  · rw [ha]

set_option maxHeartbeats 1600000 in
/-- The body at any point: the first point fills the scratch, the codes and the scales (`run_A`); a later point finds them
    as the first left them (`run_B`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Carried m c from rfl,
    show (dats m 0 c).owesAt () t.succ = (dats m 0 c).owesAt () t.castSucc from rfl]
  unfold Carried
  have hN : t.val < 9 := lt_of_lt_of_eq t.isLt (show cfg0.N = 9 from N_0)
  by_cases h0 : t.val % 9 = 0
  · have hΦ : (dats m 0 c).Φ t.castSucc = Pipeline.ΦA spec0 c := by rw [eq_pt0 t h0]; rfl
    rw [hΦ, PhiA0_eq]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    rw [show (dats m 0 c).leavesExact 7 t = owns (c : Thread nD τ) (ms0_7 t) fullShare ((dats m 0 c).after 7 t) from by
      unfold Dat.leavesExact; rw [liveAt0_7 t h0], after0_7]
    obtain rfl : t = pt0 := eq_pt0 t h0
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_A c (grid0.coords pt0) _ _ _ _ _ _ _ _ _ _ _ _ _ _ _ _ _ _ _ _ ((hcond0_0 pt0).mpr h0) (iblk m c 0 pt0) (iblk m c 1 pt0) (iblk m c 2 pt0) (iblk m c 3 pt0) (iblk m c 4 pt0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hΦ : (dats m 0 c).Φ t.castSucc = Carried m c := by
      obtain ⟨n, hn⟩ : ∃ n, t.val = n + 1 := ⟨t.val - 1, by omega⟩
      show inv m c t.val = Carried m c
      rw [hn]; rfl
    rw [hΦ]
    unfold Carried
    simp only [before0_6 m c t h0, before0_7 m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (codesOut m c) (scalesOut m c) (deqOut m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_kept m c 6 t (idleAt0_6 t h0) (codesOut m c) (fun d => before0_6 m c t h0 d) (after0_6 m c t)); iexact H6
    iapply (leaves_kept m c 7 t (idleAt0_7 t h0) (scalesOut m c) (fun d => before0_7 m c t h0 d) (after0_7 m c t)); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant after the last point gives the scratch back at some contents. -/
theorem inv_out (c : Dev nD) : (dats m 0 c).Φ (Fin.last cfg0.N) ⊢ (Pipeline.ΦA spec0 c : sProp (MT nD τ sig Unit (Elt F) ℕ (UR sig nD τ) ℕ)) := by
  have h : (dats m 0 c).Φ (Fin.last cfg0.N) = Carried m c := by
    show inv m c cfg0.N = Carried m c
    rw [show cfg0.N = 8 + 1 from N_0]; rfl
  rw [h, PhiA0_eq]
  unfold Carried
  iintro ⟨⟨HS0, HS1⟩, Hg⟩
  isplitl [HS0 HS1]
  · isplitl [HS0]
    · iexists _; iexact HS0
    iexact HS1
  iexact Hg

set_option backward.isDefEq.respectTransparency.types false in
/-- The launch: every fair execution ends with each result array at what the proof data say and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every fair execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Hand

end
-- ==== Proof.Bits.Chunk.lean ====
/- What one trip of the kernel's loop computes from its 256 rows of activations, as plain functions: the tree that
   takes each group's largest magnitude, the codes, the scales and the dequantised activations. -/
module

public import proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe

variable {F : FTy → Type} [FloatOps F]

/-- The place `(r, c)` of a two-axis shape. -/
def at2 {a b : ℕ} (r c : ℕ) (hr : r < a) (hc : c < b) : (⟨2, ![a, b]⟩ : Shape).Idx
  | ⟨0, _⟩ => ⟨r, hr⟩
  | ⟨1, _⟩ => ⟨c, hc⟩

theorem slices_tile (j : Fin 32) : S256x4096.Slices ![0, 128 * j.val] S256x128 := by
  revert j; decide

/-- Columns `128 j … 128 j + 127` of the magnitudes. -/
def absTile (x : Vec F S256x4096 .bf16) (j : Fin 32) : FVec F S256x128 .f32 :=
  extractStridedSlice S256x128 ![0, 128 * j.val] (k0_pay3 x) (slices_tile j)

/-- The lanes whose bit `s` is clear. -/
def lowHalf (s : BitVec 32) : IVec S256x128 1 :=
  cmpi .eq (andi (iota .tc S256x128 32 [1] iota_S256x128_d1_w32) (broadcast S256x128 s)) (broadcast S256x128 0#32)

/-- Two tiles merged into one: a lane with bit `s` clear holds the larger of `a` there and `s` lanes up, a lane with
    it set the larger of `b` there and `s` lanes down (`u` is `128 - s`). -/
def merge (s u : BitVec 32) (a b : FVec F S256x128 .f32) : FVec F S256x128 .f32 :=
  select (lowHalf s) (maximumf a (dynamicRotate 1 u none a rotates_S256x128_d1))
    (maximumf b (dynamicRotate 1 s none b rotates_S256x128_d1))

/-- The merges by bit 16, 8, 4, 2 and 1 in turn. -/
def lvl1 (x : Vec F S256x4096 .bf16) (j : Fin 16) : FVec F S256x128 .f32 :=
  merge 16#32 112#32 (absTile x ⟨2 * j.val, by omega⟩) (absTile x ⟨2 * j.val + 1, by omega⟩)
def lvl2 (x : Vec F S256x4096 .bf16) (j : Fin 8) : FVec F S256x128 .f32 :=
  merge 8#32 120#32 (lvl1 x ⟨2 * j.val, by omega⟩) (lvl1 x ⟨2 * j.val + 1, by omega⟩)
def lvl3 (x : Vec F S256x4096 .bf16) (j : Fin 4) : FVec F S256x128 .f32 :=
  merge 4#32 124#32 (lvl2 x ⟨2 * j.val, by omega⟩) (lvl2 x ⟨2 * j.val + 1, by omega⟩)
def lvl4 (x : Vec F S256x4096 .bf16) (j : Fin 2) : FVec F S256x128 .f32 :=
  merge 2#32 126#32 (lvl3 x ⟨2 * j.val, by omega⟩) (lvl3 x ⟨2 * j.val + 1, by omega⟩)
def lvl5 (x : Vec F S256x4096 .bf16) : FVec F S256x128 .f32 :=
  merge 1#32 127#32 (lvl4 x ⟨0, by omega⟩) (lvl4 x ⟨1, by omega⟩)

/-- Each group's largest magnitude times the constant `1/448`, one lane per group. -/
def scaledMax (x : Vec F S256x4096 .bf16) : FVec F S256x128 .f32 :=
  mulf (lvl5 x) (broadcast S256x128 (Scalar.ofBits .f32 0x3B124925#32))

/-- The codes of 256 rows: the quotients, clipped and rounded. -/
def codesChunk (x : Vec F S256x4096 .bf16) (ex : Vec F S128x4096 .bf16) : FVec F S256x4096 .fp8e4m3 :=
  k0_pay75 (k0_pay1 ex) (k0_pay2 x) (scaledMax x) (k0_pay68 (scaledMax x) 0#32) (k0_pay69 (scaledMax x) 0#32) k0_pay70

/-- The codes of 256 rows, widened again. -/
def clipChunk (x : Vec F S256x4096 .bf16) (ex : Vec F S128x4096 .bf16) : FVec F S256x4096 .f32 :=
  extf .f32 (codesChunk x ex) bitsLt_fp8e4m3_f32

/-- The scales of 256 rows. -/
def scalesChunk (x : Vec F S256x4096 .bf16) (ord : Vec F S128x128 .bf16) : IVec S256x128 8 :=
  k0_pay76 (k0_pay74 ord (scaledMax x) (k0_pay68 (scaledMax x) 0#32) (k0_pay69 (scaledMax x) 0#32) k0_pay70)

/-- The dequantised activations of 256 rows. -/
def deqChunk (x : Vec F S256x4096 .bf16) (ex : Vec F S128x4096 .bf16) : FVec F S256x4096 .bf16 :=
  k0_pay77 (k0_pay73 (k0_pay1 ex) (scaledMax x) (k0_pay68 (scaledMax x) 0#32) (k0_pay69 (scaledMax x) 0#32) k0_pay70)
    (codesChunk x ex)

/-- Rows `256 k … 256 k + 255` of the activations. -/
def rowsOf (X : Vec F S1536x4096 .bf16) (k : Fin 6) : Vec F S256x4096 .bf16 :=
  fun y => X (at2 (256 * k.val + (y 0).val) (y 1).val (by have : (y 0).val < 256 := (y 0).isLt; omega) (y 1).isLt)

theorem row_div (n : Fin 1536) : n.val / 256 < 6 := by omega
theorem row_mod (n : Fin 1536) : n.val % 256 < 256 := by omega

/-- The codes of all rows, by chunks of 256. -/
def codesAll (X : Vec F S1536x4096 .bf16) (ex : Vec F S128x4096 .bf16) : Vec F S1536x4096 .fp8e4m3 :=
  fun y => codesChunk (rowsOf X ⟨(y 0).val / 256, row_div (y 0)⟩) ex (at2 ((y 0).val % 256) (y 1).val (row_mod (y 0)) (y 1).isLt)

/-- The scales of all rows, by chunks of 256. -/
def scalesAll (X : Vec F S1536x4096 .bf16) (ord : Vec F S128x128 .bf16) : Vec F S1536x128 .i8 :=
  fun y => scalesChunk (rowsOf X ⟨(y 0).val / 256, row_div (y 0)⟩) ord (at2 ((y 0).val % 256) (y 1).val (row_mod (y 0)) (y 1).isLt)

/-- The dequantised activations of all rows, by chunks of 256. -/
def deqAll (X : Vec F S1536x4096 .bf16) (ex : Vec F S128x4096 .bf16) : Vec F S1536x4096 .bf16 :=
  fun y => deqChunk (rowsOf X ⟨(y 0).val / 256, row_div (y 0)⟩) ex (at2 ((y 0).val % 256) (y 1).val (row_mod (y 0)) (y 1).isLt)

/-- Rows `512 k … 512 k + 511` of the dequantised activations. -/
def bandOf (D : Vec F S1536x4096 .bf16) (k : Fin 3) : Vec F S512x4096 .bf16 :=
  fun y => D (at2 (512 * k.val + (y 0).val) (y 1).val (by have : (y 0).val < 512 := (y 0).isLt; omega) (y 1).isLt)

theorem band_div (n : Fin 1536) : n.val / 512 < 3 := by omega
theorem band_mod (n : Fin 1536) : n.val % 512 < 512 := by omega

/-- The tile of the output made from the dequantised activations and one tile of weights, by bands of 512 rows. -/
def outTile (D : Vec F S1536x4096 .bf16) (w : Vec F S4096x512 .fp8e4m3) (ws : Vec F S128x512 .i8) : Vec F S1536x512 .bf16 :=
  fun y => k0_pay79 (bandOf D ⟨(y 0).val / 512, band_div (y 0)⟩) (k0_pay78 ws w)
    (at2 ((y 0).val % 512) (y 1).val (band_mod (y 0)) (y 1).isLt)

end Cert.Kernel.Hand

end
-- ==== Proof.Bits.Trip.lean ====
/- What the kernel's loop leaves in the codes, the scales and the dequantised activations after its six trips. -/
module

public import proofs.«01_k».proof.Proof.Bits.Chunk
public import Idealize.ShloMosaic.Lib.Pipeline.FrameBody
public import Idealize.ShloMosaic.Lib.WordCmp
import all proofs.«01_k».proof.Proof.Gen.Kernel.Loops

@[expose] public section

set_option maxRecDepth 16384

noncomputable section

namespace Cert.Kernel.Hand

open Cert.Kernel Cert.Kernel.Gen
open Idealize.ShloMosaic Idealize.ShloMosaic.TcCoe

variable {F : FTy → Type} [FloatOps F]

theorem trips_eq : k0_t1_loop.trips = 6 := by decide

/-- Trip `k` starts at row `256 k`. -/
theorem off1_eq (k : Fin k0_t1_loop.trips) : k0_off1 k = ![256 * k.val, 0] := by
  revert k; decide
theorem off2_eq (k : Fin k0_t1_loop.trips) : k0_off2 k = ![256 * k.val, 0] := by
  revert k; decide

/-- A load of the rows of trip `k` is those rows of what the buffer reads. -/
theorem read_rows (i : grid0.Coords) (h1 : k0_cond1 i = 1#1) (arg1 : Memref sig .tc .vmem S1536x4096 .bf16)
    (X : BufTy.Contents (Elt F) arg1.view.ty) (k : Fin k0_t1_loop.trips) :
    View.readAt (Elt F) arg1.view (Rect.unit (s := S1536x4096) (k0_off1 k) S256x4096.size (k0_off1_inb i k h1)).toLoadRect X
      = rowsOf (arg1.view.read (Elt F) X) ⟨k.val, lt_of_lt_of_eq k.isLt trips_eq⟩ := by
  funext y
  show arg1.view.read (Elt F) X _ = arg1.view.read (Elt F) X _
  congr 1
  funext a
  apply Fin.ext
  have h : ∀ b, k0_off1 k b = (![256 * k.val, 0] : Fin 2 → ℕ) b := fun b => congrFun (off1_eq k) b
  fin_cases a
  · show k0_off1 k 0 + 1 * (y 0).val = 256 * k.val + (y 0).val
    rw [h 0]; simp
  · show k0_off1 k 1 + 1 * (y 1).val = (y 1).val
    rw [h 1]; simp

/-- A load of a whole buffer is what it reads. -/
theorem read_whole {s : Shape} {e : EltTy} (arg : Memref sig .tc .vmem s e) (X : BufTy.Contents (Elt F) arg.view.ty)
    {off : Fin s.rank → ℕ} (h0 : ∀ a, off a = 0) (inb : ∀ a, off a + s.size a ≤ s.size a) :
    View.readAt (Elt F) arg.view (Rect.unit off s.size inb).toLoadRect X = arg.view.read (Elt F) X := by
  funext y
  show arg.view.read (Elt F) X _ = arg.view.read (Elt F) X _
  congr 1
  funext a
  apply Fin.ext
  show off a + 1 * (y a).val = (y a).val
  rw [h0 a]; simp

theorem zero2 : ∀ a : Fin 2, (![0, 0] : Fin 2 → ℕ) a = 0 := by decide

/-- A function given by chunks of 256 rows, at a place of chunk `n`. -/
theorem rows_eq {n w : ℕ} {α : Type*} (f : Fin 6 → (⟨2, ![256, w]⟩ : Shape).Idx → α) (hn : n + 1 ≤ 6) {off : Fin 2 → ℕ} (e : off = ![256 * n, 0])
    (inb : ∀ a : Fin 2, off a + (![256, w] : Fin 2 → ℕ) a ≤ (![1536, w] : Fin 2 → ℕ) a) (y : (⟨2, ![256, w]⟩ : Shape).Idx) :
    (fun z : (⟨2, ![1536, w]⟩ : Shape).Idx => f ⟨(z 0).val / 256, row_div (z 0)⟩ (at2 ((z 0).val % 256) (z 1).val (row_mod (z 0)) (z 1).isLt))
        ((Rect.unit (s := ⟨2, ![1536, w]⟩) off ![256, w] inb).emb y)
      = f ⟨n, by omega⟩ y := by
  subst e
  have h0 : (((Rect.unit (s := ⟨2, ![1536, w]⟩) ![256 * n, 0] ![256, w] inb).emb y) 0).val = 256 * n + (y 0).val := by
    show 256 * n + 1 * (y 0).val = _
    omega
  have h1 : (((Rect.unit (s := ⟨2, ![1536, w]⟩) ![256 * n, 0] ![256, w] inb).emb y) 1).val = (y 1).val := by
    show 0 + 1 * (y 1).val = _
    omega
  have hy : (y 0).val < 256 := (y 0).isLt
  show f _ _ = f _ _
  congr 1
  · apply Fin.ext; show _ / 256 = n; rw [h0]; omega
  · funext a
    apply Fin.ext
    fin_cases a
    · show _ % 256 = (y 0).val; rw [h0]; omega
    · show _ = (y 1).val; exact h1

/-- The rows below `256 (n + 1)` are those of chunk `n` and the rows below `256 n`. -/
theorem rows_cover {n w : ℕ} {Val : EltTy → Type} {e : EltTy} {off : Fin 2 → ℕ} (eo : off = ![256 * n, 0])
    (inb : ∀ a : Fin 2, off a + (![256, w] : Fin 2 → ℕ) a ≤ (![1536, w] : Fin 2 → ℕ) a)
    (v : (⟨2, ![256, w]⟩ : Shape).Idx → Val e)
    {L : List (View.Piece Val (⟨2, ![1536, w]⟩ : Shape) e)} (y : (⟨2, ![1536, w]⟩ : Shape).Idx) (hy : (y 0).val < 256 * (n + 1))
    (h : (y 0).val < 256 * n → ∃ p ∈ L, y ∈ p.1.set) :
    ∃ p ∈ [(⟨Rect.unit (s := ⟨2, ![1536, w]⟩) off ![256, w] inb, v⟩ : View.Piece Val (⟨2, ![1536, w]⟩ : Shape) e)] ++ L, y ∈ p.1.set := by
  subst eo
  by_cases hl : (y 0).val < 256 * n
  · obtain ⟨p, hp, hp'⟩ := h hl
    exact ⟨p, List.mem_append_right _ hp, hp'⟩
  · refine ⟨_, List.mem_append_left _ (List.mem_singleton.mpr rfl), ?_⟩
    refine (Rect.unit (s := ⟨2, ![1536, w]⟩) ![256 * n, 0] ![256, w] inb).mem_set.mpr fun a => ?_
    fin_cases a
    · exact ⟨(y 0).val - 256 * n, by show (y 0).val - 256 * n < 256; omega, by show (y 0).val = 256 * n + 1 * ((y 0).val - 256 * n); omega⟩
    · exact ⟨(y 1).val, (y 1).isLt, by show (y 1).val = 0 + 1 * (y 1).val; omega⟩

section
variable (𝒱 : Variants) (c : Dev nD) (bd : Option 𝒱.V) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (k0_h1 : k0_cond1 i = 1#1) (X_arg1 : BufTy.Contents (Elt F) arg1.view.ty) (X_arg2 : BufTy.Contents (Elt F) arg2.view.ty) (X_arg3 : BufTy.Contents (Elt F) arg3.view.ty)

/-- One trip stores one piece to each of the three buffers. -/
theorem tripL_eq (k : Fin k0_t1_loop.trips) :
    tripL_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k
      = ([⟨Rect.unit (s := S1536x4096) (k0_off1 k) S256x4096.size (k0_off1_inb i k k0_h1),
            codesChunk (View.readAt (Elt F) arg1.view (Rect.unit (s := S1536x4096) (k0_off1 k) S256x4096.size (k0_off1_inb i k k0_h1)).toLoadRect X_arg1)
              (View.readAt (Elt F) arg2.view (Rect.unit (s := S128x4096) ![0, 0] S128x4096.size inb_S128x4096_S128x4096_0_0).toLoadRect X_arg2)⟩],
        [⟨Rect.unit (s := S1536x128) (k0_off2 k) S256x128.size (k0_off2_inb i k k0_h1),
            scalesChunk (View.readAt (Elt F) arg1.view (Rect.unit (s := S1536x4096) (k0_off1 k) S256x4096.size (k0_off1_inb i k k0_h1)).toLoadRect X_arg1)
              (View.readAt (Elt F) arg3.view (Rect.unit (s := S128x128) ![0, 0] S128x128.size inb_S128x128_S128x128_0_0).toLoadRect X_arg3)⟩],
        [⟨Rect.unit (s := S1536x4096) (k0_off1 k) S256x4096.size (k0_off1_inb i k k0_h1),
            deqChunk (View.readAt (Elt F) arg1.view (Rect.unit (s := S1536x4096) (k0_off1 k) S256x4096.size (k0_off1_inb i k k0_h1)).toLoadRect X_arg1)
              (View.readAt (Elt F) arg2.view (Rect.unit (s := S128x4096) ![0, 0] S128x4096.size inb_S128x4096_S128x4096_0_0).toLoadRect X_arg2)⟩]) := by
  unfold tripL_k0_t1 trip_k0_t1
  rfl

/-- Every piece of the first `n` trips is a piece of one trip: the three buffers' pieces agree with `codesAll`,
    `scalesAll` and `deqAll`, and they cover the rows below `256 n`. -/
theorem pb_spec (n : ℕ) (hn : n ≤ 6) :
    ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).1, ∀ y : p.1.shape.Idx, p.2 y = codesAll (arg1.view.read (Elt F) X_arg1) (arg2.view.read (Elt F) X_arg2) (p.1.emb y))
      ∧ ∀ y : S1536x4096.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).1, y ∈ p.1.set)
    ∧ ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.1, ∀ y : p.1.shape.Idx, p.2 y = scalesAll (arg1.view.read (Elt F) X_arg1) (arg3.view.read (Elt F) X_arg3) (p.1.emb y))
      ∧ ∀ y : S1536x128.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.1, y ∈ p.1.set)
    ∧ ((∀ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.2, ∀ y : p.1.shape.Idx, p.2 y = deqAll (arg1.view.read (Elt F) X_arg1) (arg2.view.read (Elt F) X_arg2) (p.1.emb y))
      ∧ ∀ y : S1536x4096.Idx, (y 0).val < 256 * n → ∃ p ∈ (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 n).2.2, y ∈ p.1.set) := by
  induction n with
  | zero =>
    refine ⟨⟨?_, ?_⟩, ⟨?_, ?_⟩, ⟨?_, ?_⟩⟩
    all_goals first
      | (intro p hp; exact absurd hp List.not_mem_nil)
      | (intro y hy; exact absurd hy (by omega))
  | succ n ih =>
    obtain ⟨⟨a1, a2⟩, ⟨b1, b2⟩, ⟨d1, d2⟩⟩ := ih (by omega)
    have hk : n < k0_t1_loop.trips := by rw [trips_eq]; omega
    have hs := pb_k0_t1_succ (F := F) 𝒱 c bd i arg1 harg1 arg2 harg2 arg3 harg3 arg4 harg4 arg5 harg5 arg6 harg6 arg7 harg7 arg8 harg8 arg9 harg9 arg10 harg10 k0_h1 X_arg1 X_arg2 X_arg3 ⟨n, hk⟩
    rw [tripL_eq] at hs
    rw [read_rows i k0_h1, read_whole arg2 X_arg2 zero2, read_whole arg3 X_arg3 zero2] at hs
    have e1 : k0_off1 ⟨n, hk⟩ = ![256 * n, 0] := off1_eq ⟨n, hk⟩
    have e2 : k0_off2 ⟨n, hk⟩ = ![256 * n, 0] := off2_eq ⟨n, hk⟩
    rw [hs]
    refine ⟨⟨?_, ?_⟩, ⟨?_, ?_⟩, ⟨?_, ?_⟩⟩
    · intro p hp
      rcases List.mem_append.mp hp with hp | hp
      · obtain rfl := List.mem_singleton.mp hp
        intro y
        exact (rows_eq (fun k z => codesChunk (rowsOf (arg1.view.read (Elt F) X_arg1) k) (arg2.view.read (Elt F) X_arg2) z) hn e1 (k0_off1_inb i ⟨n, hk⟩ k0_h1) y).symm
      · exact a1 p hp
    · intro y hy
      exact rows_cover e1 (k0_off1_inb i ⟨n, hk⟩ k0_h1) _ y hy (a2 y)
    · intro p hp
      rcases List.mem_append.mp hp with hp | hp
      · obtain rfl := List.mem_singleton.mp hp
        intro y
        exact (rows_eq (fun k z => scalesChunk (rowsOf (arg1.view.read (Elt F) X_arg1) k) (arg3.view.read (Elt F) X_arg3) z) hn e2 (k0_off2_inb i ⟨n, hk⟩ k0_h1) y).symm
      · exact b1 p hp
    · intro y hy
      exact rows_cover e2 (k0_off2_inb i ⟨n, hk⟩ k0_h1) _ y hy (b2 y)
    · intro p hp
      rcases List.mem_append.mp hp with hp | hp
      · obtain rfl := List.mem_singleton.mp hp
        intro y
        exact (rows_eq (fun k z => deqChunk (rowsOf (arg1.view.read (Elt F) X_arg1) k) (arg2.view.read (Elt F) X_arg2) z) hn e1 (k0_off1_inb i ⟨n, hk⟩ k0_h1) y).symm
      · exact d1 p hp
    · intro y hy
      exact rows_cover e1 (k0_off1_inb i ⟨n, hk⟩ k0_h1) _ y hy (d2 y)

/-- After the loop the codes' buffer reads `codesAll`, whatever it held. -/
theorem read_codes (G : BufTy.Contents (Elt F) arg7.view.ty) :
    arg7.view.read (Elt F) (arg7.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).1)
      = codesAll (arg1.view.read (Elt F) X_arg1) (arg2.view.read (Elt F) X_arg2) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).1
  funext y
  exact View.read_writes_apply_of_pieces _ _ _ _ h.1 y (h.2 y (y 0).isLt)

/-- After the loop the scales' buffer reads `scalesAll`. -/
theorem read_scales (G : BufTy.Contents (Elt F) arg8.view.ty) :
    arg8.view.read (Elt F) (arg8.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).2.1)
      = scalesAll (arg1.view.read (Elt F) X_arg1) (arg3.view.read (Elt F) X_arg3) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).2.1
  funext y
  exact View.read_writes_apply_of_pieces _ _ _ _ h.1 y (h.2 y (y 0).isLt)

/-- After the loop the scratch reads `deqAll`. -/
theorem read_deq (G : BufTy.Contents (Elt F) arg9.view.ty) :
    arg9.view.read (Elt F) (arg9.view.writes (Elt F) G (pb_k0_t1 (F := F) 𝒱 c bd i arg1 harg1 arg2 harg2 arg3 harg3 arg4 harg4 arg5 harg5 arg6 harg6 arg7 harg7 arg8 harg8 arg9 harg9 arg10 harg10 k0_h1 X_arg1 X_arg2 X_arg3 k0_t1_loop.trips).2.2)
      = deqAll (arg1.view.read (Elt F) X_arg1) (arg2.view.read (Elt F) X_arg2) := by
  rw [trips_eq]
  have h := (pb_spec 𝒱 c bd i arg1 harg1 arg2 harg2 arg3 harg3 arg4 harg4 arg5 harg5 arg6 harg6 arg7 harg7 arg8 harg8 arg9 harg9 arg10 harg10 k0_h1 X_arg1 X_arg2 X_arg3 6 le_rfl).2.2
  funext y
  exact View.read_writes_apply_of_pieces _ _ _ _ h.1 y (h.2 y (y 0).isLt)

end

end Cert.Kernel.Hand

end
-- ==== Proof.Bits.Runs.lean ====
/- What the runs of the kernel's body share: where its branch is taken, its staging buffers and its scratch. -/
module

public import proofs.«01_k».proof.Proof.Gen.Kernel.Frame
public import proofs.«01_k».proof.Proof.Gen.Kernel.Points
public import proofs.«01_k».proof.Proof.Bits.Trip
public import Idealize.ShloMosaic.Lib.Pipeline.FrameBody
public import Idealize.ShloMosaic.Lib.Pipeline.ValueKit.Basic
public import Idealize.ShloMosaic.Lib.Ring
public import Idealize.ShloMosaic.Lib.Tactic
public import Idealize.ShloMosaic.Lib.WordCmp

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body's branch conditions -/

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 9 = 0 :=
  (fun t => by
    have ht : t.val < 9 := Nat.lt_of_lt_of_eq t.isLt N_0
    have e0 : (grid0.coords t 0).val = t.val / 1 % 9 := Pipeline.Grid.coords_val t 0 (by decide) rfl
    simp only [cond0_0, k0_cond1, e0]
    word_cmp
   : ∀ t : Fin grid0.N, cond0_0 (grid0.coords t) ↔ t.val % 9 = 0)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1536x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S4096x512 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x512 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1536x512 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x4096 .fp8e4m3 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x128 .i8 := win0_7.stage (cfg0.slots t 7)
abbrev hs0_7 (t : Fin cfg0.N) : (ms0_7 t).IsWhole := hstage0_7 ((cfg0.slots t 7).cast nbuf0_7)
/-- The scratch operands: whole scoped buffers of the kernel's own, passed beside the windows. -/
abbrev scM0_0 : Memref sig .tc .vmem S1536x4096 .bf16 := Memref.whole cc0_scratch0
abbrev scM0_1 : Memref sig .tc .vmem S4096x512 .bf16 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp (MT nD τ sig Unit (Elt F) ℕ (UR sig nD τ) ℕ))
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-- Windows 6 and 7 are idle at every point but the first. -/
theorem idleAt0_6 (t : Fin cfg0.N) (h : ¬ t.val % 9 = 0) : cfg0.idle 6 (grid0.coords t) = true := by
  show (!(k0_cond1 (grid0.coords t) == 1#1)) = true
  rw [beq_false_of_ne (fun hc => h ((hcond0_0 t).mp hc))]; rfl
theorem liveAt0_6 (t : Fin cfg0.N) (h : t.val % 9 = 0) : cfg0.idle 6 (grid0.coords t) = false := by
  show (!(k0_cond1 (grid0.coords t) == 1#1)) = false
  rw [show k0_cond1 (grid0.coords t) = 1#1 from (hcond0_0 t).mpr h]; rfl
theorem idleAt0_7 (t : Fin cfg0.N) (h : ¬ t.val % 9 = 0) : cfg0.idle 7 (grid0.coords t) = true := by
  show (!(k0_cond1 (grid0.coords t) == 1#1)) = true
  rw [beq_false_of_ne (fun hc => h ((hcond0_0 t).mp hc))]; rfl
theorem liveAt0_7 (t : Fin cfg0.N) (h : t.val % 9 = 0) : cfg0.idle 7 (grid0.coords t) = false := by
  show (!(k0_cond1 (grid0.coords t) == 1#1)) = false
  rw [show k0_cond1 (grid0.coords t) = 1#1 from (hcond0_0 t).mpr h]; rfl
theorem liveAt0_5 : ∀ t : Fin cfg0.N, cfg0.idle 5 (grid0.coords t) = false := fun _ => rfl

/-- Three bands of 512 rows stored one after another, read back. -/
theorem read_bands {v : View sig .tc .vmem S1536x512 .bf16} (f : v.ty.Contents (Elt F)) (D : Vec F S1536x4096 .bf16)
    (w : Vec F S4096x512 .fp8e4m3) (ws : Vec F S128x512 .i8) (p0 p1 p2 : FVec F S512x512 .bf16)
    (h0 : p0 = k0_pay79 (bandOf D 0) (k0_pay78 ws w)) (h1 : p1 = k0_pay79 (bandOf D 1) (k0_pay78 ws w))
    (h2 : p2 = k0_pay79 (bandOf D 2) (k0_pay78 ws w)) :
    v.read (Elt F) (v.writes (Elt F) f
      [⟨Rect.unit (s := S1536x512) ![1024, 0] S512x512.size inb_S1536x512_S512x512_1024_0, p2⟩,
       ⟨Rect.unit (s := S1536x512) ![512, 0] S512x512.size inb_S1536x512_S512x512_512_0, p1⟩,
       ⟨Rect.unit (s := S1536x512) ![0, 0] S512x512.size inb_S1536x512_S512x512_0_0, p0⟩]) = outTile D w ws := by
  subst h0 h1 h2
  funext y
  have hy0 : (y 0).val < 1536 := (y 0).isLt
  have key : ∀ (k : Fin 3) (z : S512x512.Idx), (y 0).val = 512 * k.val + (z 0).val → (y 1).val = (z 1).val →
      k0_pay79 (bandOf D k) (k0_pay78 ws w) z = outTile D w ws y := by
    intro k z e0 e1
    have hz : (z 0).val < 512 := (z 0).isLt
    have hk : (⟨(y 0).val / 512, band_div (y 0)⟩ : Fin 3) = k := Fin.ext (by show (y 0).val / 512 = k.val; omega)
    have hzz : (at2 ((y 0).val % 512) (y 1).val (band_mod (y 0)) (y 1).isLt : S512x512.Idx) = z := by
      funext a
      apply Fin.ext
      fin_cases a
      · show (y 0).val % 512 = (z 0).val; omega
      · exact e1
    show _ = k0_pay79 (bandOf D ⟨(y 0).val / 512, band_div (y 0)⟩) (k0_pay78 ws w) _
    rw [hk, hzz]
  by_cases c2 : 1024 ≤ (y 0).val
  · rw [View.read_writes_cons_hit_of_coords v f _ _ _ (at2 ((y 0).val - 1024) (y 1).val (by omega) (y 1).isLt : S512x512.Idx) y ?_]
    · exact key 2 _ (by show (y 0).val = 512 * 2 + ((y 0).val - 1024); omega) rfl
    · intro a
      fin_cases a
      · show (y 0).val = 1024 + 1 * ((y 0).val - 1024); omega
      · show (y 1).val = 0 + 1 * (y 1).val; omega
  · rw [View.read_writes_cons_miss_of_axis v f _ _ y 0 1024 512 rfl rfl rfl (Or.inl (by omega))]
    by_cases c1 : 512 ≤ (y 0).val
    · rw [View.read_writes_cons_hit_of_coords v f _ _ _ (at2 ((y 0).val - 512) (y 1).val (by omega) (y 1).isLt : S512x512.Idx) y ?_]
      · exact key 1 _ (by show (y 0).val = 512 * 1 + ((y 0).val - 512); omega) rfl
      · intro a
        fin_cases a
        · show (y 0).val = 512 + 1 * ((y 0).val - 512); omega
        · show (y 1).val = 0 + 1 * (y 1).val; omega
    · rw [View.read_writes_cons_miss_of_axis v f _ _ y 0 512 512 rfl rfl rfl (Or.inl (by omega))]
      rw [View.read_writes_cons_hit_of_coords v f _ _ _ (at2 (y 0).val (y 1).val (by omega) (y 1).isLt : S512x512.Idx) y ?_]
      · exact key 0 _ (by show (y 0).val = 512 * 0 + (y 0).val; omega) rfl
      · intro a
        fin_cases a
        · show (y 0).val = 0 + 1 * (y 0).val; omega
        · show (y 1).val = 0 + 1 * (y 1).val; omega

/-- A load of a band of 512 rows is that band of what the buffer reads. -/
theorem read_band (v : View sig .tc .vmem S1536x4096 .bf16) (X : v.ty.Contents (Elt F)) (k : Fin 3) {off : Fin 2 → ℕ}
    (e : off = ![512 * k.val, 0]) (inb : ∀ a : Fin 2, off a + (![512, 4096] : Fin 2 → ℕ) a ≤ (![1536, 4096] : Fin 2 → ℕ) a) :
    View.readAt (Elt F) v (Rect.unit (s := S1536x4096) off ![512, 4096] inb).toLoadRect X = bandOf (v.read (Elt F) X) k := by
  subst e
  funext y
  show v.read (Elt F) X _ = v.read (Elt F) X _
  congr 1
  funext a
  apply Fin.ext
  fin_cases a
  · show 512 * k.val + 1 * (y 0).val = 512 * k.val + (y 0).val
    omega
  · show 0 + 1 * (y 1).val = (y 1).val
    omega

end Cert.Kernel.Hand

end
-- ==== Proof.Bits.RunA.lean ====
/- The kernel's body run at the first grid point. -/
module

public import proofs.«01_k».proof.Proof.Gen.Kernel.Frame
public import proofs.«01_k».proof.Proof.Bits.Runs

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body at the first point: it leaves the codes, the scales and the dequantised activations of all rows, and the
    first tile of the output. -/
theorem run_A (c : Dev nD) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (hc0 : cond0_0 i)
    (x0 : Vec F S1536x4096 .bf16) (x1 : Vec F S128x4096 .bf16) (x2 : Vec F S128x128 .bf16) (x3 : Vec F S4096x512 .fp8e4m3) (x4 : Vec F S128x512 .i8) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outTile (deqAll x0 x1) x3 x4) ∗ owns (c : Thread nD τ) arg7 fullShare (codesAll x0 x1) ∗ owns (c : Thread nD τ) arg8 fullShare (scalesAll x0 x2) ∗ owns (c : Thread nD τ) arg9 fullShare (deqAll x0 x1) ∗ (∃ d, owns (c : Thread nD τ) arg10 fullShare d)) -∗ K ⟨⟩))
          ⊢ wp frame (wpE (defs₀ (F := F)) Variants.none c none) E (cc0_mxfp8_linear_gelu i arg1 harg1 arg2 harg2 arg3 harg3 arg4 harg4 arg5 harg5 arg6 harg6 arg7 harg7 arg8 harg8 arg9 harg9 arg10 harg10) K := by
    intro E K
    simp only [cc0_mxfp8_linear_gelu_eq_skeleton]; unfold cc0_mxfp8_linear_gelu_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      have hW : ∀ inb, arg10.view.readCov (run_A.sl.HS1_1 c arg4 arg5 f3 f4)
          (Rect.unit (s := S4096x512) ![0, 0] S4096x512.size inb).toLoadRect = k0_pay78 x4 x3 := by
        intro inb
        unfold run_A.sl.HS1_1
        refine (View.readCov_unit_lit arg10.view inb _ zero2).trans ?_
        exact congrArg₂ k0_pay78 ((read_whole arg5 f4 zero2 _).trans hf4) ((read_whole arg4 f3 zero2 _).trans hf3)
      have hD := read_deq Variants.none c none i arg1 harg1 arg2 harg2 arg3 harg3 arg4 harg4 arg5 harg5 arg6 harg6 arg7 harg7 arg8 harg8 arg9 harg9 arg10 harg10 hc0 f0 f1 f2 fs0
      rw [hf0, hf1] at hD
      refine read_bands f5 _ x3 x4 _ _ _ ?_ ?_ ?_
      · unfold run_A.sl.r run_A.sl.v19 run_A.sl.v20
        exact congrArg₂ k0_pay79 ((read_band arg9.view _ 0 rfl _).trans (congrArg (bandOf · 0) hD)) (hW _)
      · unfold run_A.sl.v37 run_A.sl.v20
        exact congrArg₂ k0_pay79 ((read_band arg9.view _ 1 rfl _).trans (congrArg (bandOf · 1) hD)) (hW _)
      · unfold run_A.sl.r_1 run_A.sl.v55 run_A.sl.v20
        exact congrArg₂ k0_pay79 ((read_band arg9.view _ 2 rfl _).trans (congrArg (bandOf · 2) hD)) (hW _)
    isplitl [H6]
    · iexists _; isplitr; swap; · iexact H6
      ipureintro
      subst hf0 hf1; exact read_codes _ c _ i arg1 harg1 arg2 harg2 arg3 harg3 arg4 harg4 arg5 harg5 arg6 harg6 arg7 harg7 arg8 harg8 arg9 harg9 arg10 harg10 hc0 f0 f1 f2 f6
    isplitl [H7]
    · iexists _; isplitr; swap; · iexact H7
      ipureintro
      subst hf0 hf2; exact read_scales _ c _ i arg1 harg1 arg2 harg2 arg3 harg3 arg4 harg4 arg5 harg5 arg6 harg6 arg7 harg7 arg8 harg8 arg9 harg9 arg10 harg10 hc0 f0 f1 f2 f7
    isplitl [HS0]
    · iexists _; isplitr; swap; · iexact HS0
      ipureintro
      subst hf0 hf1; exact read_deq _ c _ i arg1 harg1 arg2 harg2 arg3 harg3 arg4 harg4 arg5 harg5 arg6 harg6 arg7 harg7 arg8 harg8 arg9 harg9 arg10 harg10 hc0 f0 f1 f2 fs0
    iexists _, _; isplitr; swap; · iexact HS1
    ipureintro; rfl

end Cert.Kernel.Hand

end
-- ==== Proof.Bits.RunB.lean ====
/- The kernel's body run at a later grid point. -/
module

public import proofs.«01_k».proof.Proof.Gen.Kernel.Frame
public import proofs.«01_k».proof.Proof.Bits.RunA

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

set_option maxHeartbeats 2000000 in
/-- The body at a later point: the dequantised activations `D` that the scratch holds and this tile of weights make this
    tile of the output; the codes' and scales' buffers stay as they were. -/
theorem run_B (c : Dev nD) (i : grid0.Coords) (arg1 : Memref sig .tc .vmem S1536x4096 .bf16) (harg1 : arg1.IsWhole) (arg2 : Memref sig .tc .vmem S128x4096 .bf16) (harg2 : arg2.IsWhole) (arg3 : Memref sig .tc .vmem S128x128 .bf16) (harg3 : arg3.IsWhole) (arg4 : Memref sig .tc .vmem S4096x512 .fp8e4m3) (harg4 : arg4.IsWhole) (arg5 : Memref sig .tc .vmem S128x512 .i8) (harg5 : arg5.IsWhole) (arg6 : Memref sig .tc .vmem S1536x512 .bf16) (harg6 : arg6.IsWhole) (arg7 : Memref sig .tc .vmem S1536x4096 .fp8e4m3) (harg7 : arg7.IsWhole) (arg8 : Memref sig .tc .vmem S1536x128 .i8) (harg8 : arg8.IsWhole) (arg9 : Memref sig .tc .vmem S1536x4096 .bf16) (harg9 : arg9.IsWhole) (arg10 : Memref sig .tc .vmem S4096x512 .bf16) (harg10 : arg10.IsWhole) (hc0 : ¬ cond0_0 i)
    (x0 : Vec F S1536x4096 .bf16) (x1 : Vec F S128x4096 .bf16) (x2 : Vec F S128x128 .bf16) (x3 : Vec F S4096x512 .fp8e4m3) (x4 : Vec F S128x512 .i8) (g6 : Vec F S1536x4096 .fp8e4m3) (g7 : Vec F S1536x128 .i8) (D : Vec F S1536x4096 .bf16) :
      ∀ (E : Set ℕ) (K : PUnit → sProp (MT nD τ sig Unit (Elt F) ℕ (UR sig nD τ) ℕ)),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ owns (c : Thread nD τ) arg7 fullShare g6 ∗ owns (c : Thread nD τ) arg8 fullShare g7 ∗ owns (c : Thread nD τ) arg9 fullShare D ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (outTile D x3 x4) ∗ owns (c : Thread nD τ) arg7 fullShare g6 ∗ owns (c : Thread nD τ) arg8 fullShare g7 ∗ owns (c : Thread nD τ) arg9 fullShare D ∗ (∃ d, owns (c : Thread nD τ) arg10 fullShare d)) -∗ K ⟨⟩))
          ⊢ wp frame (wpE (defs₀ (F := F)) Variants.none c none) E (cc0_mxfp8_linear_gelu i arg1 harg1 arg2 harg2 arg3 harg3 arg4 harg4 arg5 harg5 arg6 harg6 arg7 harg7 arg8 harg8 arg9 harg9 arg10 harg10) K := by
    intro E K
    simp only [cc0_mxfp8_linear_gelu_eq_skeleton]; unfold cc0_mxfp8_linear_gelu_skel
    simp only [k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%f7, %hf7, H7⟩, ⟨%fs0, %hfs0, HS0⟩, ⟨%ds1, %fs1, -, HS1⟩, Hk⟩
    sl_exec (disch := first | sl_exact hc0)
    sl_step
    iapply Hk
    isplitl [H0]
    · iexists _; isplitr; swap; · iexact H0
      ipureintro; exact hf0
    isplitl [H1]
    · iexists _; isplitr; swap; · iexact H1
      ipureintro; exact hf1
    isplitl [H2]
    · iexists _; isplitr; swap; · iexact H2
      ipureintro; exact hf2
    isplitl [H3]
    · iexists _; isplitr; swap; · iexact H3
      ipureintro; exact hf3
    isplitl [H4]
    · iexists _; isplitr; swap; · iexact H4
      ipureintro; exact hf4
    isplitl [H5]
    · iexists _; isplitr; swap; · iexact H5
      ipureintro
      have hW : ∀ inb, arg10.view.readCov (run_B.sl.HS1_1 c arg4 arg5 f3 f4)
          (Rect.unit (s := S4096x512) ![0, 0] S4096x512.size inb).toLoadRect = k0_pay78 x4 x3 := by
        intro inb
        unfold run_B.sl.HS1_1
        refine (View.readCov_unit_lit arg10.view inb _ zero2).trans ?_
        exact congrArg₂ k0_pay78 ((read_whole arg5 f4 zero2 _).trans hf4) ((read_whole arg4 f3 zero2 _).trans hf3)
      have hD := hfs0
      skip
      refine read_bands f5 _ x3 x4 _ _ _ ?_ ?_ ?_
      · unfold run_B.sl.r run_B.sl.v20
        exact congrArg₂ k0_pay79 ((read_band arg9.view _ 0 rfl _).trans (congrArg (bandOf · 0) hD)) (hW _)
      · unfold run_B.sl.v20
        exact congrArg₂ k0_pay79 ((read_band arg9.view _ 1 rfl _).trans (congrArg (bandOf · 1) hD)) (hW _)
      · unfold run_B.sl.r_1 run_B.sl.v20
        exact congrArg₂ k0_pay79 ((read_band arg9.view _ 2 rfl _).trans (congrArg (bandOf · 2) hD)) (hW _)
    isplitl [H6]
    · iexists _; isplitr; swap; · iexact H6
      ipureintro
      exact hf6
    isplitl [H7]
    · iexists _; isplitr; swap; · iexact H7
      ipureintro
      exact hf7
    isplitl [HS0]
    · iexists _; isplitr; swap; · iexact HS0
      ipureintro
      exact hfs0
    iexists _, _; isplitr; swap; · iexact HS1
    ipureintro; rfl

end Cert.Kernel.Hand

end
-- ==== Proof.Bits.FrameHand.lean ====
/- The kernel's whole run: from what the body does at a point (RunA, RunB) to what the three result arrays hold at the
   end. The scratch carries the dequantised activations from the first point to the last, so the invariant names them. -/
module

public import proofs.«01_k».proof.Proof.Bits.RunB
public import Idealize.ShloMosaic.Lib.Pipeline.TableIdle
public import Idealize.ShloMosaic.Lib.Claim

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## What the run leaves -/

/-- The first grid point. -/
def pt0 : Fin cfg0.N := ⟨0, lt_of_lt_of_eq (by decide : 0 < 9) N_0.symm⟩

theorem eq_pt0 (t : Fin cfg0.N) (h : t.val % 9 = 0) : t = pt0 := by
  have ht : t.val < 9 := Nat.lt_of_lt_of_eq t.isLt N_0
  exact Fin.ext (by show t.val = 0; omega)

/-- The codes of all rows, of the activations and the expansion matrix the region finds. -/
def codesOut (c : Dev nD) : Vec F S1536x4096 .fp8e4m3 := codesAll (iblk m c 0 pt0) (iblk m c 1 pt0)
/-- The scales of all rows. -/
def scalesOut (c : Dev nD) : Vec F S1536x128 .i8 := scalesAll (iblk m c 0 pt0) (iblk m c 2 pt0)
/-- The dequantised activations of all rows: what the scratch carries. -/
def deqOut (c : Dev nD) : Vec F S1536x4096 .bf16 := deqAll (iblk m c 0 pt0) (iblk m c 1 pt0)
/-- The tile of the output that point `t` makes. -/
def tileOut (c : Dev nD) (t : Fin cfg0.N) : Vec F S1536x512 .bf16 := outTile (deqOut m c) (iblk m c 3 t) (iblk m c 4 t)

/-! ## The pipeline's proof data -/

/-- The invariant after the first point: the first scratch buffer at the dequantised activations. -/
def Carried (c : Dev nD) : sProp (MT nD τ sig Unit (Elt F) ℕ (UR sig nD τ) ℕ) :=
  iprop(iprop(owns (c : Thread nD τ) scM0_0 fullShare (deqOut m c) ∗ (∃ d, owns (c : Thread nD τ) scM0_1 fullShare d)) ∗ (∃ r, prngReg c r))

/-- The invariant before point `n`. -/
def inv (c : Dev nD) : ℕ → sProp (MT nD τ sig Unit (Elt F) ℕ (UR sig nD τ) ℕ)
  | 0 => Pipeline.ΦA spec0 c
  | _ + 1 => Carried m c

/-- The proof data on core `c`: the arrays as the region finds them, each input's buffer at its block, each output's at
    what the run leaves there, the invariant `inv`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tileOut m c t
    | ⟨6, _⟩ => codesOut m c
    | ⟨7, _⟩ => scalesOut m c
  Φ t := inv m c t.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = tileOut m c t := by dsimp only [dats]
theorem after0_6 (c : Dev nD) (t : Fin cfg0.N) : (dats m 0 c).after 6 t = codesOut m c := by dsimp only [dats]
theorem after0_7 (c : Dev nD) (t : Fin cfg0.N) : (dats m 0 c).after 7 t = scalesOut m c := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-- After the first point output window 6's buffer holds what that point stored: it is written back at the last point only. -/
theorem fresh0_6 (n : ℕ) (hn : n + 1 < 9) : cfg0.fresh 6 (n + 1) = false := by
  induction n with
  | zero =>
    have h : 0 < cfg0.N := lt_of_lt_of_eq (by decide : 0 < 9) N_0.symm
    rw [Cfg.fresh_succ cfg0 6 0 h, liveAt0_6 ⟨0, h⟩ rfl, Bool.false_and, Bool.or_false]
    exact Bool.eq_false_iff.mpr fun hf => absurd ((flush0_6 ⟨0, h⟩).mp hf) (by show ¬ 0 % 9 = 8; decide)
  | succ n ih =>
    have h : n + 1 < cfg0.N := lt_of_lt_of_eq (by omega : n + 1 < 9) N_0.symm
    rw [Cfg.fresh_succ cfg0 6 (n + 1) h, ih (by omega), Bool.and_false, Bool.or_false]
    exact Bool.eq_false_iff.mpr fun hf => absurd ((flush0_6 ⟨n + 1, h⟩).mp hf) (by show ¬ (n + 1) % 9 = 8; omega)

theorem before0_6 (c : Dev nD) (t : Fin cfg0.N) (h0 : ¬ t.val % 9 = 0) (d) : (dats m 0 c).before 6 t d = codesOut m c := by
  have ht : t.val < 9 := Nat.lt_of_lt_of_eq t.isLt N_0
  rw [(dats m 0 c).before_out_traj 6 rfl (fun _ _ => rfl) (fun t _ _ _ => (after0_6 m c t).trans (after0_6 m c _).symm) t.val t rfl d, after0_6]
  obtain ⟨n, hn⟩ : ∃ n, t.val = n + 1 := ⟨t.val - 1, by omega⟩
  rw [hn, fresh0_6 n (by omega)]
  exact if_neg Bool.false_ne_true

/-- After the first point output window 7's buffer holds what that point stored: it is written back at the last point only. -/
theorem fresh0_7 (n : ℕ) (hn : n + 1 < 9) : cfg0.fresh 7 (n + 1) = false := by
  induction n with
  | zero =>
    have h : 0 < cfg0.N := lt_of_lt_of_eq (by decide : 0 < 9) N_0.symm
    rw [Cfg.fresh_succ cfg0 7 0 h, liveAt0_7 ⟨0, h⟩ rfl, Bool.false_and, Bool.or_false]
    exact Bool.eq_false_iff.mpr fun hf => absurd ((flush0_7 ⟨0, h⟩).mp hf) (by show ¬ 0 % 9 = 8; decide)
  | succ n ih =>
    have h : n + 1 < cfg0.N := lt_of_lt_of_eq (by omega : n + 1 < 9) N_0.symm
    rw [Cfg.fresh_succ cfg0 7 (n + 1) h, ih (by omega), Bool.and_false, Bool.or_false]
    exact Bool.eq_false_iff.mpr fun hf => absurd ((flush0_7 ⟨n + 1, h⟩).mp hf) (by show ¬ (n + 1) % 9 = 8; omega)

theorem before0_7 (c : Dev nD) (t : Fin cfg0.N) (h0 : ¬ t.val % 9 = 0) (d) : (dats m 0 c).before 7 t d = scalesOut m c := by
  have ht : t.val < 9 := Nat.lt_of_lt_of_eq t.isLt N_0
  rw [(dats m 0 c).before_out_traj 7 rfl (fun _ _ => rfl) (fun t _ _ _ => (after0_7 m c t).trans (after0_7 m c _).symm) t.val t rfl d, after0_7]
  obtain ⟨n, hn⟩ : ∃ n, t.val = n + 1 := ⟨t.val - 1, by omega⟩
  rw [hn, fresh0_7 n (by omega)]
  exact if_neg Bool.false_ne_true

/-! ## The body obligation, at a generic point -/

/-- What the body is called with at point `t`, the windows one by one, -/
def bodyPre (c : Dev nD) (t : Fin cfg0.N) : sProp (MT nD τ sig Unit (Elt F) ℕ (UR sig nD τ) ℕ) :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp (MT nD τ sig Unit (Elt F) ℕ (UR sig nD τ) ℕ) :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t)

/-- The post of an output window that later points leave alone: what it held before. -/
theorem leaves_kept (c : Dev nD) (w : Fin cfg0.W) (t : Fin cfg0.N) (hi : cfg0.idle w (cfg0.grid.coords t) = true) (Y : (cfg0.win w).block.Idx → Elt F (cfg0.win w).elt)
    (hb : ∀ d, (dats m 0 c).before w t d = Y) (ha : (dats m 0 c).after w t = Y) :
    owns (c : Thread nD τ) ((cfg0.win w).stage (cfg0.slots t w)) fullShare Y ⊢ ((dats m 0 c).leavesExact w t : sProp (MT nD τ sig Unit (Elt F) ℕ (UR sig nD τ) ℕ)) := by
  unfold Dat.leavesExact; rw [hi]
  cases (cfg0.win w).flush t
  · iintro H
    iexists Y
    rw [hb]; iexact H
  · rw [ha]

set_option maxHeartbeats 1600000 in
/-- The body at any point: the first point fills the scratch, the codes and the scales (`run_A`); a later point finds them
    as the first left them (`run_B`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).Φ t.succ = Carried m c from rfl,
    show (dats m 0 c).owesAt () t.succ = (dats m 0 c).owesAt () t.castSucc from rfl]
  unfold Carried
  have hN : t.val < 9 := lt_of_lt_of_eq t.isLt (show cfg0.N = 9 from N_0)
  by_cases h0 : t.val % 9 = 0
  · have hΦ : (dats m 0 c).Φ t.castSucc = Pipeline.ΦA spec0 c := by rw [eq_pt0 t h0]; rfl
    rw [hΦ, PhiA0_eq]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t h0], after0_6]
    rw [show (dats m 0 c).leavesExact 7 t = owns (c : Thread nD τ) (ms0_7 t) fullShare ((dats m 0 c).after 7 t) from by
      unfold Dat.leavesExact; rw [liveAt0_7 t h0], after0_7]
    obtain rfl : t = pt0 := eq_pt0 t h0
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_A c (grid0.coords pt0) _ _ _ _ _ _ _ _ _ _ _ _ _ _ _ _ _ _ _ _ ((hcond0_0 pt0).mpr h0) (iblk m c 0 pt0) (iblk m c 1 pt0) (iblk m c 2 pt0) (iblk m c 3 pt0) (iblk m c 4 pt0)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [H7]; · iexists _; iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  · have hΦ : (dats m 0 c).Φ t.castSucc = Carried m c := by
      obtain ⟨n, hn⟩ : ∃ n, t.val = n + 1 := ⟨t.val - 1, by omega⟩
      show inv m c t.val = Carried m c
      rw [hn]; rfl
    rw [hΦ]
    unfold Carried
    simp only [before0_6 m c t h0, before0_7 m c t h0]
    rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply ((run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) (codesOut m c) (scalesOut m c) (deqOut m c)) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [H7]; · iexact H7
    isplitl [HS0]; · iexact HS0
    isplitl [HS1]; · iexact HS1
    iintro ⟨H0, H1, H2, H3, H4, H5, H6, H7, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iapply (leaves_kept m c 6 t (idleAt0_6 t h0) (codesOut m c) (fun d => before0_6 m c t h0 d) (after0_6 m c t)); iexact H6
    iapply (leaves_kept m c 7 t (idleAt0_7 t h0) (scalesOut m c) (fun d => before0_7 m c t h0 d) (after0_7 m c t)); iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- The invariant after the last point gives the scratch back at some contents. -/
theorem inv_out (c : Dev nD) : (dats m 0 c).Φ (Fin.last cfg0.N) ⊢ (Pipeline.ΦA spec0 c : sProp (MT nD τ sig Unit (Elt F) ℕ (UR sig nD τ) ℕ)) := by
  have h : (dats m 0 c).Φ (Fin.last cfg0.N) = Carried m c := by
    show inv m c cfg0.N = Carried m c
    rw [show cfg0.N = 8 + 1 from N_0]; rfl
  rw [h, PhiA0_eq]
  unfold Carried
  iintro ⟨⟨HS0, HS1⟩, Hg⟩
  isplitl [HS0 HS1]
  · isplitl [HS0]
    · iexists _; iexact HS0
    iexact HS1
  iexact Hg

set_option backward.isDefEq.respectTransparency.types false in
/-- The launch: every fair execution ends with each result array at what the proof data say and every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := fun _ => .rfl) (hout := inv_out m)

theorem run_main : θ_run defs (onTc (τ := τ) (main (F := F))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The frame: every fair execution terminates, the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.Kernel.Hand

end
-- ==== Proof.MaxTree.lean ====
/- What the kernel's tree of merges holds: lane `l` ends with the largest magnitude of one group of 32 columns. -/
module

public import proofs.«01_k».proof.Proof.Chunk
public import Idealize.ShloMosaic.Lib.Pointwise

@[expose] public section

set_option maxRecDepth 16384

noncomputable section

namespace Cert.KernelIdeal.Hand

open Cert.KernelIdeal Cert.KernelIdeal.Gen
open Idealize.ShloMosaic Idealize.ShloMosaic.TcCoe

/-- `at2` is the index of its two coordinates. -/
theorem at2_eq {a b : ℕ} (r c : ℕ) (hr : r < a) (hc : c < b) : (at2 r c hr hc : (⟨2, ![a, b]⟩ : Shape).Idx) = ix2 ⟨r, hr⟩ ⟨c, hc⟩ := by
  funext i
  match i with
  | ⟨0, _⟩ => rfl
  | ⟨1, _⟩ => rfl

/-- The magnitude of an extended real. -/
def mag (v : EReal) : EReal := max v (-v)

/-- The magnitude in one row at column `n` (zero past the last). -/
def colMag (x : Vec Ideal S256x4096 .bf16) (r : Fin 256) (n : ℕ) : EReal :=
  if h : n < 4096 then mag (x (ix2 r ⟨n, h⟩)) else 0

/-- A tile of magnitudes read at a lane. -/
theorem absTile_apply (x : Vec Ideal S256x4096 .bf16) (j : Fin 32) (r : Fin 256) (l : ℕ) (hl : l < 128) :
    absTile x j (ix2 r ⟨l, hl⟩) = colMag x r (128 * j.val + l) := by
  unfold colMag
  rw [dif_pos (by omega)]
  unfold absTile
  pointwise [k0_pay3, k0_pay2]
  rfl

/-- A merge read at a lane, the bit named by a number. -/
theorem merge_apply (s u : BitVec 32) (a b : FVec Ideal S256x128 .f32) (r : Fin 256) (l : ℕ) (hl : l < 128) :
    merge s u a b (ix2 r ⟨l, hl⟩)
      = if BitVec.ofNat 32 l &&& s = 0#32
        then max (a (ix2 r ⟨l, hl⟩)) (a (ix2 r ⟨(l + 128 - u.toNat % 128) % 128, Nat.mod_lt _ (by norm_num)⟩))
        else max (b (ix2 r ⟨l, hl⟩)) (b (ix2 r ⟨(l + 128 - s.toNat % 128) % 128, Nat.mod_lt _ (by norm_num)⟩)) := by
  unfold merge lowHalf
  pointwise
  by_cases h : BitVec.ofNat 32 l &&& s = 0#32
  · have e : IntOp.cmpi .eq (IntOp.andi (BitVec.ofNat 32 l) s) 0#32 = 1#1 := by
      show BitVec.ofBool (BitVec.ofNat 32 l &&& s == 0#32) = 1#1
      rw [h]
      rfl
    rw [if_pos h, e]
    rfl
  · have e : IntOp.cmpi .eq (IntOp.andi (BitVec.ofNat 32 l) s) 0#32 = 0#1 := by
      show BitVec.ofBool (BitVec.ofNat 32 l &&& s == 0#32) = 0#1
      rw [beq_false_of_ne h]
      rfl
    rw [if_neg h, e]
    rfl

/-- The bit tests of the five merges. -/
theorem bit_tests : ∀ l : Fin 128,
    (BitVec.ofNat 32 l.val &&& 16#32 = 0#32 ↔ l.val / 16 % 2 = 0) ∧ (BitVec.ofNat 32 l.val &&& 8#32 = 0#32 ↔ l.val / 8 % 2 = 0)
    ∧ (BitVec.ofNat 32 l.val &&& 4#32 = 0#32 ↔ l.val / 4 % 2 = 0) ∧ (BitVec.ofNat 32 l.val &&& 2#32 = 0#32 ↔ l.val / 2 % 2 = 0)
    ∧ (BitVec.ofNat 32 l.val &&& 1#32 = 0#32 ↔ l.val / 1 % 2 = 0) := by
  decide +kernel

/-- What a tile's lane holds: the largest of the magnitudes, in tile `f l` of the row, at the offsets that agree with
    the lane modulo `p`. -/
def Holds (x : Vec Ideal S256x4096 .bf16) (r : Fin 256) (p : ℕ) (a : FVec Ideal S256x128 .f32) (f : ℕ → ℕ) : Prop :=
  ∀ (l : ℕ) (hl : l < 128) (c : EReal), a (ix2 r ⟨l, hl⟩) ≤ c
    ↔ ∀ o, o < 32 → o % p = l % p → colMag x r (128 * f l + (32 * (l / 32) + o)) ≤ c

/-- The merge by bit 16 halves the modulus. -/
theorem merge_holds16 (x : Vec Ideal S256x4096 .bf16) (r : Fin 256) (a b : FVec Ideal S256x128 .f32) (fa fb f : ℕ → ℕ)
    (ha : Holds x r 32 a fa) (hb : Holds x r 32 b fb)
    (h0 : ∀ l, l / 16 % 2 = 0 → f l = fa l ∧ fa (l + 16) = fa l)
    (h1 : ∀ l, 16 ≤ l → l / 16 % 2 = 1 → f l = fb l ∧ fb (l - 16) = fb l) :
    Holds x r 16 (merge 16#32 112#32 a b) f := by
  intro l hl c
  rw [merge_apply]
  have hbit := (bit_tests ⟨l, hl⟩).1
  simp only at hbit
  by_cases hc : l / 16 % 2 = 0
  · rw [if_pos (hbit.mpr hc), max_le_iff, ha, ha]
    obtain ⟨e1, e2⟩ := h0 l hc
    have e3 : (l + 128 - (112#32 : BitVec 32).toNat % 128) % 128 = l + 16 := by
      show (l + 128 - 112 % 128) % 128 = l + 16
      omega
    rw [e3, e1, e2, show (l + 16) / 32 = l / 32 by omega]
    constructor
    · rintro ⟨p, q⟩ o ho hm
      rcases (show o % 32 = l % 32 ∨ o % 32 = (l + 16) % 32 by omega) with h | h
      · exact p o ho h
      · exact q o ho h
    · intro p
      exact ⟨fun o ho h => p o ho (by omega), fun o ho h => p o ho (by omega)⟩
  · rw [if_neg (fun h => hc (hbit.mp h)), max_le_iff, hb, hb]
    obtain ⟨e1, e2⟩ := h1 l (by omega) (by omega)
    have e3 : (l + 128 - (16#32 : BitVec 32).toNat % 128) % 128 = l - 16 := by
      show (l + 128 - 16 % 128) % 128 = l - 16
      omega
    rw [e3, e1, e2, show (l - 16) / 32 = l / 32 by omega]
    constructor
    · rintro ⟨p, q⟩ o ho hm
      rcases (show o % 32 = l % 32 ∨ o % 32 = (l - 16) % 32 by omega) with h | h
      · exact p o ho h
      · exact q o ho h
    · intro p
      exact ⟨fun o ho h => p o ho (by omega), fun o ho h => p o ho (by omega)⟩

/-- The merge by bit 8 halves the modulus. -/
theorem merge_holds8 (x : Vec Ideal S256x4096 .bf16) (r : Fin 256) (a b : FVec Ideal S256x128 .f32) (fa fb f : ℕ → ℕ)
    (ha : Holds x r 16 a fa) (hb : Holds x r 16 b fb)
    (h0 : ∀ l, l / 8 % 2 = 0 → f l = fa l ∧ fa (l + 8) = fa l)
    (h1 : ∀ l, 8 ≤ l → l / 8 % 2 = 1 → f l = fb l ∧ fb (l - 8) = fb l) :
    Holds x r 8 (merge 8#32 120#32 a b) f := by
  intro l hl c
  rw [merge_apply]
  have hbit := (bit_tests ⟨l, hl⟩).2.1
  simp only at hbit
  by_cases hc : l / 8 % 2 = 0
  · rw [if_pos (hbit.mpr hc), max_le_iff, ha, ha]
    obtain ⟨e1, e2⟩ := h0 l hc
    have e3 : (l + 128 - (120#32 : BitVec 32).toNat % 128) % 128 = l + 8 := by
      show (l + 128 - 120 % 128) % 128 = l + 8
      omega
    rw [e3, e1, e2, show (l + 8) / 32 = l / 32 by omega]
    constructor
    · rintro ⟨p, q⟩ o ho hm
      rcases (show o % 16 = l % 16 ∨ o % 16 = (l + 8) % 16 by omega) with h | h
      · exact p o ho h
      · exact q o ho h
    · intro p
      exact ⟨fun o ho h => p o ho (by omega), fun o ho h => p o ho (by omega)⟩
  · rw [if_neg (fun h => hc (hbit.mp h)), max_le_iff, hb, hb]
    obtain ⟨e1, e2⟩ := h1 l (by omega) (by omega)
    have e3 : (l + 128 - (8#32 : BitVec 32).toNat % 128) % 128 = l - 8 := by
      show (l + 128 - 8 % 128) % 128 = l - 8
      omega
    rw [e3, e1, e2, show (l - 8) / 32 = l / 32 by omega]
    constructor
    · rintro ⟨p, q⟩ o ho hm
      rcases (show o % 16 = l % 16 ∨ o % 16 = (l - 8) % 16 by omega) with h | h
      · exact p o ho h
      · exact q o ho h
    · intro p
      exact ⟨fun o ho h => p o ho (by omega), fun o ho h => p o ho (by omega)⟩

/-- The merge by bit 4 halves the modulus. -/
theorem merge_holds4 (x : Vec Ideal S256x4096 .bf16) (r : Fin 256) (a b : FVec Ideal S256x128 .f32) (fa fb f : ℕ → ℕ)
    (ha : Holds x r 8 a fa) (hb : Holds x r 8 b fb)
    (h0 : ∀ l, l / 4 % 2 = 0 → f l = fa l ∧ fa (l + 4) = fa l)
    (h1 : ∀ l, 4 ≤ l → l / 4 % 2 = 1 → f l = fb l ∧ fb (l - 4) = fb l) :
    Holds x r 4 (merge 4#32 124#32 a b) f := by
  intro l hl c
  rw [merge_apply]
  have hbit := (bit_tests ⟨l, hl⟩).2.2.1
  simp only at hbit
  by_cases hc : l / 4 % 2 = 0
  · rw [if_pos (hbit.mpr hc), max_le_iff, ha, ha]
    obtain ⟨e1, e2⟩ := h0 l hc
    have e3 : (l + 128 - (124#32 : BitVec 32).toNat % 128) % 128 = l + 4 := by
      show (l + 128 - 124 % 128) % 128 = l + 4
      omega
    rw [e3, e1, e2, show (l + 4) / 32 = l / 32 by omega]
    constructor
    · rintro ⟨p, q⟩ o ho hm
      rcases (show o % 8 = l % 8 ∨ o % 8 = (l + 4) % 8 by omega) with h | h
      · exact p o ho h
      · exact q o ho h
    · intro p
      exact ⟨fun o ho h => p o ho (by omega), fun o ho h => p o ho (by omega)⟩
  · rw [if_neg (fun h => hc (hbit.mp h)), max_le_iff, hb, hb]
    obtain ⟨e1, e2⟩ := h1 l (by omega) (by omega)
    have e3 : (l + 128 - (4#32 : BitVec 32).toNat % 128) % 128 = l - 4 := by
      show (l + 128 - 4 % 128) % 128 = l - 4
      omega
    rw [e3, e1, e2, show (l - 4) / 32 = l / 32 by omega]
    constructor
    · rintro ⟨p, q⟩ o ho hm
      rcases (show o % 8 = l % 8 ∨ o % 8 = (l - 4) % 8 by omega) with h | h
      · exact p o ho h
      · exact q o ho h
    · intro p
      exact ⟨fun o ho h => p o ho (by omega), fun o ho h => p o ho (by omega)⟩

/-- The merge by bit 2 halves the modulus. -/
theorem merge_holds2 (x : Vec Ideal S256x4096 .bf16) (r : Fin 256) (a b : FVec Ideal S256x128 .f32) (fa fb f : ℕ → ℕ)
    (ha : Holds x r 4 a fa) (hb : Holds x r 4 b fb)
    (h0 : ∀ l, l / 2 % 2 = 0 → f l = fa l ∧ fa (l + 2) = fa l)
    (h1 : ∀ l, 2 ≤ l → l / 2 % 2 = 1 → f l = fb l ∧ fb (l - 2) = fb l) :
    Holds x r 2 (merge 2#32 126#32 a b) f := by
  intro l hl c
  rw [merge_apply]
  have hbit := (bit_tests ⟨l, hl⟩).2.2.2.1
  simp only at hbit
  by_cases hc : l / 2 % 2 = 0
  · rw [if_pos (hbit.mpr hc), max_le_iff, ha, ha]
    obtain ⟨e1, e2⟩ := h0 l hc
    have e3 : (l + 128 - (126#32 : BitVec 32).toNat % 128) % 128 = l + 2 := by
      show (l + 128 - 126 % 128) % 128 = l + 2
      omega
    rw [e3, e1, e2, show (l + 2) / 32 = l / 32 by omega]
    constructor
    · rintro ⟨p, q⟩ o ho hm
      rcases (show o % 4 = l % 4 ∨ o % 4 = (l + 2) % 4 by omega) with h | h
      · exact p o ho h
      · exact q o ho h
    · intro p
      exact ⟨fun o ho h => p o ho (by omega), fun o ho h => p o ho (by omega)⟩
  · rw [if_neg (fun h => hc (hbit.mp h)), max_le_iff, hb, hb]
    obtain ⟨e1, e2⟩ := h1 l (by omega) (by omega)
    have e3 : (l + 128 - (2#32 : BitVec 32).toNat % 128) % 128 = l - 2 := by
      show (l + 128 - 2 % 128) % 128 = l - 2
      omega
    rw [e3, e1, e2, show (l - 2) / 32 = l / 32 by omega]
    constructor
    · rintro ⟨p, q⟩ o ho hm
      rcases (show o % 4 = l % 4 ∨ o % 4 = (l - 2) % 4 by omega) with h | h
      · exact p o ho h
      · exact q o ho h
    · intro p
      exact ⟨fun o ho h => p o ho (by omega), fun o ho h => p o ho (by omega)⟩

/-- The merge by bit 1 halves the modulus. -/
theorem merge_holds1 (x : Vec Ideal S256x4096 .bf16) (r : Fin 256) (a b : FVec Ideal S256x128 .f32) (fa fb f : ℕ → ℕ)
    (ha : Holds x r 2 a fa) (hb : Holds x r 2 b fb)
    (h0 : ∀ l, l / 1 % 2 = 0 → f l = fa l ∧ fa (l + 1) = fa l)
    (h1 : ∀ l, 1 ≤ l → l / 1 % 2 = 1 → f l = fb l ∧ fb (l - 1) = fb l) :
    Holds x r 1 (merge 1#32 127#32 a b) f := by
  intro l hl c
  rw [merge_apply]
  have hbit := (bit_tests ⟨l, hl⟩).2.2.2.2
  simp only at hbit
  by_cases hc : l / 1 % 2 = 0
  · rw [if_pos (hbit.mpr hc), max_le_iff, ha, ha]
    obtain ⟨e1, e2⟩ := h0 l hc
    have e3 : (l + 128 - (127#32 : BitVec 32).toNat % 128) % 128 = l + 1 := by
      show (l + 128 - 127 % 128) % 128 = l + 1
      omega
    rw [e3, e1, e2, show (l + 1) / 32 = l / 32 by omega]
    constructor
    · rintro ⟨p, q⟩ o ho hm
      rcases (show o % 2 = l % 2 ∨ o % 2 = (l + 1) % 2 by omega) with h | h
      · exact p o ho h
      · exact q o ho h
    · intro p
      exact ⟨fun o ho h => p o ho (by omega), fun o ho h => p o ho (by omega)⟩
  · rw [if_neg (fun h => hc (hbit.mp h)), max_le_iff, hb, hb]
    obtain ⟨e1, e2⟩ := h1 l (by omega) (by omega)
    have e3 : (l + 128 - (1#32 : BitVec 32).toNat % 128) % 128 = l - 1 := by
      show (l + 128 - 1 % 128) % 128 = l - 1
      omega
    rw [e3, e1, e2, show (l - 1) / 32 = l / 32 by omega]
    constructor
    · rintro ⟨p, q⟩ o ho hm
      rcases (show o % 2 = l % 2 ∨ o % 2 = (l - 1) % 2 by omega) with h | h
      · exact p o ho h
      · exact q o ho h
    · intro p
      exact ⟨fun o ho h => p o ho (by omega), fun o ho h => p o ho (by omega)⟩

/-- A tile before any merge. -/
theorem absTile_holds (x : Vec Ideal S256x4096 .bf16) (r : Fin 256) (j : Fin 32) : Holds x r 32 (absTile x j) (fun _ => j.val) := by
  intro l hl c
  rw [absTile_apply]
  constructor
  · intro h o ho hm
    rw [show 32 * (l / 32) + o = l by omega]
    exact h
  · intro h
    have := h (l % 32) (by omega) (by omega)
    rwa [show 32 * (l / 32) + l % 32 = l by omega] at this

theorem lvl1_holds (x : Vec Ideal S256x4096 .bf16) (r : Fin 256) (j : Fin 16) :
    Holds x r 16 (lvl1 x j) (fun l => 2 * j.val + l / 16 % 2) :=
  merge_holds16 x r _ _ _ _ _ (absTile_holds x r _) (absTile_holds x r _)
    (fun l h => ⟨by show 2 * j.val + l / 16 % 2 = 2 * j.val; omega, rfl⟩)
    (fun l h h' => ⟨by show 2 * j.val + l / 16 % 2 = 2 * j.val + 1; omega, rfl⟩)

theorem lvl2_holds (x : Vec Ideal S256x4096 .bf16) (r : Fin 256) (j : Fin 8) :
    Holds x r 8 (lvl2 x j) (fun l => 2 * (2 * j.val + l / 8 % 2) + l / 16 % 2) :=
  merge_holds8 x r _ _ _ _ _ (lvl1_holds x r _) (lvl1_holds x r _)
    (fun l h => by simp only; have e16 : (l + 8) / 16 = l / 16 := (by omega); rw [e16]; omega)
    (fun l h h' => by simp only; have e16 : (l - 8) / 16 = l / 16 := (by omega); rw [e16]; omega)

theorem lvl3_holds (x : Vec Ideal S256x4096 .bf16) (r : Fin 256) (j : Fin 4) :
    Holds x r 4 (lvl3 x j) (fun l => 2 * (2 * (2 * j.val + l / 4 % 2) + l / 8 % 2) + l / 16 % 2) :=
  merge_holds4 x r _ _ _ _ _ (lvl2_holds x r _) (lvl2_holds x r _)
    (fun l h => by simp only; have e8 : (l + 4) / 8 = l / 8 := (by omega); have e16 : (l + 4) / 16 = l / 16 := (by omega); rw [e8, e16]; omega)
    (fun l h h' => by simp only; have e8 : (l - 4) / 8 = l / 8 := (by omega); have e16 : (l - 4) / 16 = l / 16 := (by omega); rw [e8, e16]; omega)

theorem lvl4_holds (x : Vec Ideal S256x4096 .bf16) (r : Fin 256) (j : Fin 2) :
    Holds x r 2 (lvl4 x j) (fun l => 2 * (2 * (2 * (2 * j.val + l / 2 % 2) + l / 4 % 2) + l / 8 % 2) + l / 16 % 2) :=
  merge_holds2 x r _ _ _ _ _ (lvl3_holds x r _) (lvl3_holds x r _)
    (fun l h => by simp only; have e4 : (l + 2) / 4 = l / 4 := (by omega); have e8 : (l + 2) / 8 = l / 8 := (by omega); have e16 : (l + 2) / 16 = l / 16 := (by omega); rw [e4, e8, e16]; omega)
    (fun l h h' => by simp only; have e4 : (l - 2) / 4 = l / 4 := (by omega); have e8 : (l - 2) / 8 = l / 8 := (by omega); have e16 : (l - 2) / 16 = l / 16 := (by omega); rw [e4, e8, e16]; omega)

/-- The five low bits of a lane in reverse order: the tile its group lies in. -/
def tileOf (l : ℕ) : ℕ := 16 * (l % 2) + 8 * (l / 2 % 2) + 4 * (l / 4 % 2) + 2 * (l / 8 % 2) + l / 16 % 2

/-- The group of 32 columns whose largest magnitude ends in lane `l`. -/
def groupOf (l : ℕ) : ℕ := 4 * tileOf l + l / 32

theorem groupOf_lt (l : ℕ) (h : l < 128) : groupOf l < 128 := by unfold groupOf tileOf; omega

theorem lvl5_holds (x : Vec Ideal S256x4096 .bf16) (r : Fin 256) : Holds x r 1 (lvl5 x) tileOf :=
  merge_holds1 x r _ _ _ _ _ (lvl4_holds x r _) (lvl4_holds x r _)
    (fun l h => by simp only [tileOf]; have e2 : (l + 1) / 2 = l / 2 := (by omega); have e4 : (l + 1) / 4 = l / 4 := (by omega); have e8 : (l + 1) / 8 = l / 8 := (by omega); have e16 : (l + 1) / 16 = l / 16 := (by omega); rw [e2, e4, e8, e16]; omega)
    (fun l h h' => by simp only [tileOf]; have e2 : (l - 1) / 2 = l / 2 := (by omega); have e4 : (l - 1) / 4 = l / 4 := (by omega); have e8 : (l - 1) / 8 = l / 8 := (by omega); have e16 : (l - 1) / 16 = l / 16 := (by omega); rw [e2, e4, e8, e16]; omega)

/-- The largest magnitude in one row of the 32 columns of group `g`. -/
def groupMag (x : Vec Ideal S256x4096 .bf16) (r : Fin 256) (g : ℕ) : EReal :=
  Finset.univ.sup fun o : Fin 32 => colMag x r (32 * g + o.val)

/-- The tree's lane `l` is the largest magnitude of its group. -/
theorem lvl5_apply (x : Vec Ideal S256x4096 .bf16) (r : Fin 256) (l : ℕ) (hl : l < 128) :
    lvl5 x (ix2 r ⟨l, hl⟩) = groupMag x r (groupOf l) := by
  refine eq_of_forall_ge_iff fun c => ?_
  rw [lvl5_holds x r l hl c]
  unfold groupMag
  rw [Finset.sup_le_iff]
  constructor
  · intro h o _
    have := h o.val o.isLt (by omega)
    rwa [show 128 * tileOf l + (32 * (l / 32) + o.val) = 32 * groupOf l + o.val by unfold groupOf; omega] at this
  · intro h o ho _
    have := h ⟨o, ho⟩ (Finset.mem_univ _)
    rwa [show 128 * tileOf l + (32 * (l / 32) + o) = 32 * groupOf l + o by unfold groupOf; omega]

end Cert.KernelIdeal.Hand

end
-- ==== Proof.Expo.lean ====
/- The power of two of a group: the kernel finds the exponent by comparing with powers of two built from integer
   words, the reference by logarithm and floor. Both are read here on one extended real, and shown equal. -/
module

public import Idealize.ShloMosaic.Lib.Pointwise

@[expose] public section

set_option maxRecDepth 16384

noncomputable section

namespace Cert.Quant

open Idealize.ShloMosaic

/-- The power of two with an integer exponent, as an extended real. -/
def pow2 (z : ℤ) : EReal := (((2 : ℝ) ^ z : ℝ) : EReal)

/-- One step of the search: keep the bit if the power of two it names is not above the value. -/
def stepS (p : BitVec 32 → BitVec 1) (a bit : BitVec 32) : BitVec 32 := Scalar.select (p (a ||| bit)) a (a ||| bit)

/-- The eight steps, from the highest bit down. -/
def search (p : BitVec 32 → BitVec 1) : BitVec 32 :=
  stepS p (stepS p (stepS p (stepS p (stepS p (stepS p (stepS p (stepS p 0#32 128#32) 64#32) 32#32) 16#32) 8#32) 4#32) 2#32) 1#32

/-- A step keeps the word below 256 and asks the predicate about one such word. -/
theorem stepS_lt (p : BitVec 32 → BitVec 1) (a bit : BitVec 32) (ha : a.toNat < 256) (hb : bit.toNat < 256) :
    (stepS p a bit).toNat < 256 := by
  unfold stepS Scalar.select
  split
  · exact ha
  · rw [BitVec.toNat_or]; exact Nat.or_lt_two_pow (n := 8) ha hb

/-- Two predicates that agree below 256 make the same step. -/
theorem stepS_congr (p q : BitVec 32 → BitVec 1) (h : ∀ w : BitVec 32, w.toNat < 256 → p w = q w) (a bit : BitVec 32)
    (ha : a.toNat < 256) (hb : bit.toNat < 256) : stepS p a bit = stepS q a bit := by
  unfold stepS
  rw [h]
  rw [BitVec.toNat_or]; exact Nat.or_lt_two_pow (n := 8) ha hb

/-- Two predicates that agree below 256 find the same word. -/
theorem search_congr (p q : BitVec 32 → BitVec 1) (h : ∀ w : BitVec 32, w.toNat < 256 → p w = q w) : search p = search q := by
  unfold search
  have l0 : (0#32).toNat < 256 := by decide
  have l1 := stepS_lt p 0#32 128#32 l0 (by decide)
  have l2 := stepS_lt p _ 64#32 l1 (by decide)
  have l3 := stepS_lt p _ 32#32 l2 (by decide)
  have l4 := stepS_lt p _ 16#32 l3 (by decide)
  have l5 := stepS_lt p _ 8#32 l4 (by decide)
  have l6 := stepS_lt p _ 4#32 l5 (by decide)
  have l7 := stepS_lt p _ 2#32 l6 (by decide)
  rw [stepS_congr p q h _ 1#32 l7 (by decide), stepS_congr p q h _ 2#32 l6 (by decide),
    stepS_congr p q h _ 4#32 l5 (by decide), stepS_congr p q h _ 8#32 l4 (by decide),
    stepS_congr p q h _ 16#32 l3 (by decide), stepS_congr p q h _ 32#32 l2 (by decide),
    stepS_congr p q h _ 64#32 l1 (by decide), stepS_congr p q h _ 128#32 l0 (by decide)]

/-- Against the predicate "is above n" the search finds n. -/
theorem search_above : ∀ n : Fin 256, search (fun w => BitVec.ofBool (decide (n.val < w.toNat))) = BitVec.ofNat 32 n.val := by
  decide +kernel

/-- The fields of the word with exponent field k and nothing else. -/
theorem word_fields : ∀ k : Fin 256,
    ((IntOp.shli .vector (BitVec.ofNat 32 k.val) 23#32).extractLsb' 31 1 == 1#1) = false
    ∧ ((IntOp.shli .vector (BitVec.ofNat 32 k.val) 23#32).extractLsb' 23 8).toNat = k.val
    ∧ ((IntOp.shli .vector (BitVec.ofNat 32 k.val) 23#32).extractLsb' 0 23).toNat = 0 := by
  decide +kernel

/-- The float whose word is an exponent field k between 1 and 254 is the power of two k - 127. -/
theorem ofBits_word (k : ℕ) (h1 : 1 ≤ k) (h2 : k ≤ 254) :
    Ideal.ofBits .f32 (IntOp.shli .vector (BitVec.ofNat 32 k) 23#32) = pow2 ((k : ℤ) - 127) := by
  obtain ⟨a, b, c⟩ := word_fields ⟨k, by omega⟩
  simp only at a b c
  unfold Ideal.ofBits Ideal.ieee
  simp only [a, b, c]
  rw [if_neg (by omega), if_neg (by omega)]
  unfold pow2
  refine congrArg (fun r : ℝ => (r : EReal)) ?_
  have : ((k : ℤ) - (2 ^ (8 - 1) - 1) - ((23 : ℕ) : ℤ)) = ((k : ℤ) - 127) + (-23) := by norm_num; ring
  rw [this, zpow_add₀ (by norm_num)]
  norm_num
  ring

/-- The float whose word is zero is zero. -/
theorem ofBits_word_zero : Ideal.ofBits .f32 (IntOp.shli .vector (BitVec.ofNat 32 0) 23#32) = 0 := by
  obtain ⟨a, b, c⟩ := word_fields 0
  simp only [Fin.val_zero] at a b c
  unfold Ideal.ofBits Ideal.ieee
  simp only [a, b, c]
  simp

/-- The float whose exponent field is 255 is infinite. -/
theorem ofBits_word_top : Ideal.ofBits .f32 (IntOp.shli .vector (BitVec.ofNat 32 255) 23#32) = ⊤ := by
  obtain ⟨a, b, c⟩ := word_fields 255
  have e : ((255 : Fin 256) : ℕ) = 255 := rfl
  simp only [e] at a b c
  unfold Ideal.ofBits Ideal.ieee
  simp only [a, b, c]
  simp

/-- The comparison the kernel makes at one word. -/
def below (t : EReal) (w : BitVec 32) : BitVec 1 := Ideal.cmp .olt t (Ideal.ofBits .f32 (IntOp.shli .vector w 23#32))

/-- If the powers of two above t are those of the words above n, the search finds n. -/
theorem search_below (t : EReal) (n : ℕ) (hn : n < 256)
    (h : ∀ k < 256, (t < Ideal.ofBits .f32 (IntOp.shli .vector (BitVec.ofNat 32 k) 23#32) ↔ n < k)) :
    search (below t) = BitVec.ofNat 32 n := by
  rw [← search_above ⟨n, hn⟩]
  refine search_congr _ _ fun w hw => ?_
  have := h w.toNat hw
  rw [BitVec.ofNat_toNat, BitVec.setWidth_eq] at this
  unfold below Ideal.cmp
  simp only [this]

/-- The kernel's exponent of a group: zero if the search finds zero, else what it finds less 126. -/
def expK (t : EReal) : BitVec 32 := Scalar.select (IntOp.cmpi .eq (search (below t)) 0#32) 0#32 (search (below t) - 126#32)

/-- The kernel's exponent at zero. -/
theorem expK_zero : expK 0 = 0#32 := by
  have : search (below 0) = BitVec.ofNat 32 0 := by
    refine search_below 0 0 (by norm_num) fun k hk => ?_
    rcases Nat.eq_zero_or_pos k with rfl | h1
    · rw [ofBits_word_zero]; simp
    · rcases Nat.lt_or_ge 254 k with h2 | h2
      · obtain rfl : k = 255 := by omega
        rw [ofBits_word_top]; simp
      · rw [ofBits_word k h1 h2]
        refine iff_of_true ?_ h1
        exact EReal.coe_pos.mpr (zpow_pos (by norm_num) _)
  unfold expK
  rw [this]
  decide

/-- The kernel's exponent of a positive real: the least power of two above it. -/
theorem expK_of (t : ℝ) (z : ℤ) (hz1 : -125 ≤ z) (hz2 : z ≤ 126) (h1 : (2 : ℝ) ^ (z - 1) ≤ t) (h2 : t < (2 : ℝ) ^ z) :
    expK (t : EReal) = BitVec.ofInt 32 z := by
  have hs : search (below t) = BitVec.ofNat 32 (z + 126).toNat := by
    refine search_below t _ (by omega) fun k hk => ?_
    have ht : 0 < t := lt_of_lt_of_le (zpow_pos (by norm_num) _) h1
    rcases Nat.eq_zero_or_pos k with rfl | hk1
    · rw [ofBits_word_zero]
      refine iff_of_false ?_ (by omega)
      exact not_lt.mpr (EReal.coe_nonneg.mpr ht.le)
    · rcases Nat.lt_or_ge 254 k with hk2 | hk2
      · obtain rfl : k = 255 := by omega
        rw [ofBits_word_top]
        exact iff_of_true (EReal.coe_lt_top t) (by omega)
      · rw [ofBits_word k hk1 hk2, pow2, EReal.coe_lt_coe_iff]
        constructor
        · intro h
          by_contra hc
          have : (2 : ℝ) ^ ((k : ℤ) - 127) ≤ (2 : ℝ) ^ (z - 1) := zpow_le_zpow_right₀ (by norm_num) (by omega)
          linarith
        · intro h
          have : (2 : ℝ) ^ z ≤ (2 : ℝ) ^ ((k : ℤ) - 127) := zpow_le_zpow_right₀ (by norm_num) (by omega)
          linarith
  have hw : ∀ i : Fin 252, Scalar.select (IntOp.cmpi .eq (BitVec.ofNat 32 (i.val + 1)) 0#32) 0#32 (BitVec.ofNat 32 (i.val + 1) - 126#32)
      = BitVec.ofInt 32 ((i.val : ℤ) - 125) := by decide +kernel
  unfold expK
  rw [hs]
  have := hw ⟨(z + 125).toNat, by omega⟩
  have e1 : (z + 125).toNat + 1 = (z + 126).toNat := by omega
  have e2 : (((z + 125).toNat : ℕ) : ℤ) - 125 = z := by omega
  simp only [e1, e2] at this
  exact this

/-- The constant 1/448 as the programs write it. -/
def inv448 : EReal := Ideal.ofBits .f32 0x3B124925#32

/-- Its value. -/
theorem inv448_eq : inv448 = ((9586981 * (2 : ℝ) ^ (-32 : ℤ) : ℝ) : EReal) := by
  have a : ((0x3B124925#32).extractLsb' 31 1 == 1#1) = false := by decide
  have b : ((0x3B124925#32).extractLsb' 23 8).toNat = 118 := by decide
  have c : ((0x3B124925#32).extractLsb' 0 23).toNat = 1198373 := by decide
  unfold inv448 Ideal.ofBits Ideal.ieee
  simp only [a, b, c]
  norm_num

/-- The reference's exponent of a group with largest magnitude a. -/
def expR (a : EReal) : BitVec 32 :=
  Scalar.select (Ideal.cmp .oeq a (Ideal.ofBits .f32 0x00000000#32)) 0#32
    (Ideal.fptosi 32 (Ideal.liftRound Int.floor (Ideal.div (Ideal.log (a * inv448)) (Ideal.log (Ideal.ofBits .f32 0x40000000#32)))
      + Ideal.ofBits .f32 0x3F800000#32))

/-- The float two. -/
theorem ofBits_two : Ideal.ofBits .f32 0x40000000#32 = ((2 : ℝ) : EReal) := by
  have a : ((0x40000000#32).extractLsb' 31 1 == 1#1) = false := by decide
  have b : ((0x40000000#32).extractLsb' 23 8).toNat = 128 := by decide
  have c : ((0x40000000#32).extractLsb' 0 23).toNat = 0 := by decide
  unfold Ideal.ofBits Ideal.ieee
  simp only [a, b, c]
  norm_num

/-- A group's largest magnitude for which the two exponents are claimed equal: zero, or a real between the least one
    whose 448th part is a normal float and the largest finite bf16. -/
def Tame (a : EReal) : Prop :=
  a = 0 ∨ ∃ r : ℝ, a = (r : EReal) ∧ 448 * (2 : ℝ) ^ (-126 : ℤ) ≤ r ∧ r ≤ 255 * (2 : ℝ) ^ (120 : ℤ)

/-- The conversion of an integer in range. -/
theorem fptosi_int (z : ℤ) (h1 : -1000 ≤ z) (h2 : z ≤ 1000) : Ideal.fptosi 32 (((z : ℝ) : EReal)) = BitVec.ofInt 32 z := by
  unfold Ideal.fptosi
  congr 1
  show max _ (min _ (if (0 : ℝ) ≤ (z : ℝ) then ⌊(z : ℝ)⌋ else ⌈(z : ℝ)⌉)) = z
  rw [Int.floor_intCast, Int.ceil_intCast, ite_self]
  norm_num
  omega

/-- The two exponents agree on every tame magnitude, and are between -126 and 126. -/
theorem exp_eq (a : EReal) (h : Tame a) :
    ∃ z : ℤ, -126 ≤ z ∧ z ≤ 126 ∧ expK (a * inv448) = BitVec.ofInt 32 z ∧ expR a = BitVec.ofInt 32 z := by
  rcases h with rfl | ⟨r, rfl, h1, h2⟩
  · refine ⟨0, by norm_num, by norm_num, ?_, ?_⟩
    · rw [zero_mul, expK_zero]; rfl
    · unfold expR Ideal.cmp
      simp [Scalar.select]
  · have hr : 0 < r := lt_of_lt_of_le (by positivity) h1
    set t : ℝ := r * (9586981 * (2 : ℝ) ^ (-32 : ℤ)) with ht
    have ht0 : 0 < t := by positivity
    have hat : (r : EReal) * inv448 = (t : EReal) := by rw [inv448_eq, ← EReal.coe_mul]
    have lo : (2 : ℝ) ^ (-126 : ℤ) ≤ t := by
      rw [ht]
      have e : (448 * (2 : ℝ) ^ (-126 : ℤ)) * (9586981 * (2 : ℝ) ^ (-32 : ℤ)) ≤ r * (9586981 * (2 : ℝ) ^ (-32 : ℤ)) :=
        mul_le_mul_of_nonneg_right h1 (by positivity)
      refine le_trans ?_ e
      norm_num
    have hi : t < (2 : ℝ) ^ (121 : ℤ) := by
      rw [ht]
      have e : r * (9586981 * (2 : ℝ) ^ (-32 : ℤ)) ≤ (255 * (2 : ℝ) ^ (120 : ℤ)) * (9586981 * (2 : ℝ) ^ (-32 : ℤ)) :=
        mul_le_mul_of_nonneg_right h2 (by positivity)
      refine lt_of_le_of_lt e ?_
      norm_num
    obtain ⟨n, hn1, hn2⟩ := exists_mem_Ico_zpow ht0 (by norm_num : (1 : ℝ) < 2)
    have n1 : -126 < n + 1 := by
      have := lt_of_le_of_lt lo hn2
      exact (zpow_lt_zpow_iff_right₀ (by norm_num)).mp this
    have n2 : n < 121 := by
      have := lt_of_le_of_lt hn1 hi
      exact (zpow_lt_zpow_iff_right₀ (by norm_num)).mp this
    refine ⟨n + 1, by omega, by omega, ?_, ?_⟩
    · rw [hat]
      exact expK_of t (n + 1) (by omega) (by omega) (by simpa using hn1) hn2
    · unfold expR
      have hne : Ideal.cmp .oeq (r : EReal) (Ideal.ofBits .f32 0x00000000#32) = 0#1 := by
        unfold Ideal.cmp
        simp [hr.ne']
      rw [hne]
      show Ideal.fptosi 32 _ = _
      rw [hat, ofBits_two, Ideal.log_coe, Ideal.log_coe, if_neg (not_le.mpr ht0), if_neg (by norm_num)]
      have hl2 : (0 : ℝ) < Real.log 2 := Real.log_pos (by norm_num)
      have hdiv : Ideal.div (Real.log t : EReal) (Real.log 2 : EReal) = ((Real.log t / Real.log 2 : ℝ) : EReal) := by
        unfold Ideal.div
        rw [if_neg (by exact_mod_cast hl2.ne'), ← EReal.coe_inv, ← EReal.coe_mul]
        rfl
      rw [hdiv]
      have hfl : ⌊Real.log t / Real.log 2⌋ = n := by
        rw [Int.floor_eq_iff, le_div_iff₀ hl2, div_lt_iff₀ hl2]
        have l1 := Real.log_le_log (zpow_pos (by norm_num) _) hn1
        have l2 := Real.log_lt_log ht0 hn2
        rw [Real.log_zpow] at l1 l2
        push_cast at l1 l2
        exact ⟨l1, l2⟩
      show Ideal.fptosi 32 ((((⌊Real.log t / Real.log 2⌋ : ℤ) : ℝ) : EReal) + _) = _
      rw [hfl]
      have one : Ideal.ofBits .f32 0x3F800000#32 = ((1 : ℝ) : EReal) := by
        rw [Ideal.ofBits_one_f32]; rfl
      rw [one, ← EReal.coe_add]
      have : ((n : ℝ) + 1) = ((n + 1 : ℤ) : ℝ) := by push_cast; ring
      rw [this, fptosi_int _ (by omega) (by omega)]

/-- What the programs compute in integers from an exponent between -126 and 126. -/
theorem exp_words : ∀ i : Fin 253,
    127#32 - BitVec.ofInt 32 ((i.val : ℤ) - 126) = BitVec.ofNat 32 (253 - i.val)
    ∧ (0#32 - BitVec.ofInt 32 ((i.val : ℤ) - 126)).toInt = -((i.val : ℤ) - 126)
    ∧ IntOp.minsi 254#32 (IntOp.maxsi 0#32 (BitVec.ofInt 32 ((i.val : ℤ) - 126) + 127#32)) = BitVec.ofNat 32 (i.val + 1)
    ∧ (((BitVec.ofNat 32 (i.val + 1)).setWidth 8).setWidth 32 - 127#32).toInt = (i.val : ℤ) - 126
    ∧ (BitVec.ofNat 32 (i.val + 1)).toInt = (i.val : ℤ) + 1 := by
  decide +kernel

/-- Two to an integer, as the reference's exponential computes it. -/
theorem exp2_int (z : ℤ) : Ideal.exp2 (((z : ℝ) : EReal)) = pow2 z := by
  rw [Ideal.exp2_coe, pow2]
  congr 1
  exact Real.rpow_intCast 2 z

/-- The biased exponent, clipped to a byte's range, as a word. -/
def biasW (e : BitVec 32) : BitVec 32 := IntOp.minsi 254#32 (IntOp.maxsi 0#32 (e + 127#32))

/-- The power of two the codes are multiplied by: the kernel's word and the reference's exponential. -/
theorem inv_pow (z : ℤ) (h1 : -126 ≤ z) (h2 : z ≤ 126) :
    Ideal.ofBits .f32 (IntOp.shli .vector (127#32 - BitVec.ofInt 32 z) 23#32) = pow2 (-z)
    ∧ Ideal.exp2 (((((0#32 - BitVec.ofInt 32 z).toInt : ℤ) : ℝ) : EReal)) = pow2 (-z) := by
  obtain ⟨a, b, -⟩ := exp_words ⟨(z + 126).toNat, by omega⟩
  have e : (((z + 126).toNat : ℕ) : ℤ) - 126 = z := by omega
  simp only [e] at a b
  rw [a, b, exp2_int, ofBits_word _ (by omega) (by omega)]
  refine ⟨?_, rfl⟩
  congr 1
  omega

/-- The power of two the codes are multiplied back by: the kernel's word, the reference's exponential, and the byte. -/
theorem scale_pow (z : ℤ) (h1 : -126 ≤ z) (h2 : z ≤ 126) :
    Ideal.ofBits .f32 (IntOp.shli .vector (biasW (BitVec.ofInt 32 z)) 23#32) = pow2 z
    ∧ Ideal.exp2 ((((((biasW (BitVec.ofInt 32 z)).setWidth 8).setWidth 32 - 127#32).toInt : ℤ) : ℝ) : EReal) = pow2 z
    ∧ (biasW (BitVec.ofInt 32 z)).toInt = z + 127
    ∧ biasW (BitVec.ofInt 32 z) = BitVec.ofInt 32 (z + 127) := by
  obtain ⟨-, -, a, b, c⟩ := exp_words ⟨(z + 126).toNat, by omega⟩
  have e : (((z + 126).toNat : ℕ) : ℤ) - 126 = z := by omega
  simp only [e] at a b
  unfold biasW
  rw [a, b, c, exp2_int, ofBits_word _ (by omega) (by omega)]
  refine ⟨?_, rfl, ?_, ?_⟩
  · congr 1
    omega
  · simp only; omega
  · rw [show z + 127 = (((z + 126).toNat + 1 : ℕ) : ℤ) by omega]
    rfl

/-- The power of two of a scale byte between 1 and 254, both ways. -/
theorem byte_pow (s : BitVec 8) (h1 : 1 ≤ s.toNat) (h2 : s.toNat ≤ 254) :
    Ideal.ofBits .f32 (IntOp.shli .vector (s.setWidth 32) 23#32) = pow2 ((s.toNat : ℤ) - 127)
    ∧ Ideal.exp2 ((((s.setWidth 32 - 127#32).toInt : ℤ) : ℝ) : EReal) = pow2 ((s.toNat : ℤ) - 127) := by
  have hw : ∀ k : Fin 256, (((BitVec.ofNat 8 k.val).setWidth 32 - 127#32).toInt) = (k.val : ℤ) - 127
      ∧ (BitVec.ofNat 8 k.val).setWidth 32 = BitVec.ofNat 32 k.val := by decide +kernel
  obtain ⟨a, b⟩ := hw ⟨s.toNat, s.isLt⟩
  rw [BitVec.ofNat_toNat, BitVec.setWidth_eq] at a b
  simp only at a b
  rw [a, b, exp2_int, ofBits_word _ h1 h2]
  exact ⟨rfl, rfl⟩

end Cert.Quant
-- ==== Proof.QuantChunk.lean ====
/- A chunk's codes, scales and dequantised activations read at an index, given that the two selection matrices are the
   0/1 matrices they are. -/
module

public import proofs.«01_k».proof.Proof.MaxTree
public import proofs.«01_k».proof.Proof.Expo

@[expose] public section

set_option maxRecDepth 16384

noncomputable section

namespace Cert.KernelIdeal.Hand

open Cert.KernelIdeal Cert.KernelIdeal.Gen Cert.Quant
open Idealize.ShloMosaic Idealize.ShloMosaic.TcCoe

/-- One step of the search on a whole vector. -/
def vstep (v : FVec Ideal S256x128 .f32) (a : IVec S256x128 32) (bit : BitVec 32) : IVec S256x128 32 :=
  select (cmpf .olt v (bitcastToFloat .f32 (shli (ori a (broadcast S256x128 bit)) (broadcast S256x128 23#32)))) a
    (ori a (broadcast S256x128 bit))

theorem vstep_apply (v : FVec Ideal S256x128 .f32) (a : IVec S256x128 32) (bit : BitVec 32) (y : S256x128.Idx) :
    vstep v a bit y = stepS (below (v y)) (a y) bit := rfl

/-- The words after the first six steps. -/
theorem pay68_eq (v : FVec Ideal S256x128 .f32) : k0_pay68 v 0#32
    = vstep v (vstep v (vstep v (vstep v (vstep v (vstep v (broadcast S256x128 0#32) 128#32) 64#32) 32#32) 16#32) 8#32) 4#32 := rfl

/-- The seventh step's candidate. -/
theorem pay69_eq (v : FVec Ideal S256x128 .f32) :
    k0_pay69 v 0#32 = ori (k0_pay68 v 0#32) (broadcast S256x128 2#32) := rfl

/-- The last two steps, and the exponent from the word found. -/
theorem pay71_eq (v : FVec Ideal S256x128 .f32) (a : IVec S256x128 32) :
    k0_pay71 v a (ori a (broadcast S256x128 2#32)) k0_pay70
      = select (cmpi .eq (vstep v (vstep v a 2#32) 1#32) (broadcast S256x128 0#32)) (broadcast S256x128 0#32)
          (subi (vstep v (vstep v a 2#32) 1#32) (broadcast S256x128 126#32)) := rfl

/-- The exponent of a lane. -/
theorem exponent_apply (v : FVec Ideal S256x128 .f32) (y : S256x128.Idx) :
    k0_pay71 v (k0_pay68 v 0#32) (k0_pay69 v 0#32) k0_pay70 y = expK (v y) := by
  rw [pay69_eq, pay71_eq]
  have e : vstep v (vstep v (k0_pay68 v 0#32) 2#32) 1#32 y = search (below (v y)) := by
    rw [pay68_eq]
    simp only [vstep_apply]
    rfl
  unfold expK
  rw [← e]
  rfl

theorem scaledMax_apply (x : Vec Ideal S256x4096 .bf16) (r : Fin 256) (l : ℕ) (hl : l < 128) :
    scaledMax x (ix2 r ⟨l, hl⟩) = groupMag x r (groupOf l) * inv448 := by
  rw [← lvl5_apply]
  rfl

/-- The lane a group's largest magnitude ends in. -/
def laneOf (g : ℕ) : ℕ := 32 * (g % 4) + tileOf (g / 4)

theorem laneOf_lt (g : ℕ) : laneOf g < 128 := by unfold laneOf tileOf; omega

theorem group_lane : ∀ g : Fin 128, groupOf (laneOf g.val) = g.val := by decide +kernel

/-- The matrix that spreads one value per lane to the columns of the lane's group. -/
def IsExpand (ex : Vec Ideal S128x4096 .bf16) : Prop :=
  ∀ (p : Fin 128) (c : Fin 4096), ex (ix2 p c) = if p.val = laneOf (c.val / 32) then (1 : EReal) else 0

/-- The matrix that puts one value per lane in the order of the groups. -/
def IsOrder (ord : Vec Ideal S128x128 .bf16) : Prop :=
  ∀ (p q : Fin 128), ord (ix2 p q) = if p.val = laneOf q.val then (1 : EReal) else 0

/-- A sum against a row of such a matrix is the one entry selected. -/
theorem sum_select (f : Fin 128 → EReal) (n : ℕ) (h : n < 128) :
    (∑ p : Fin 128, f p * (if p.val = n then (1 : EReal) else 0)) = f ⟨n, h⟩ := by
  rw [Finset.sum_eq_single ⟨n, h⟩]
  · rw [if_pos rfl, mul_one]
  · intro b _ hb
    rw [if_neg (fun e => hb (Fin.ext e)), mul_zero]
  · intro h
    exact absurd (Finset.mem_univ _) h

/-- The kernel's exponent of group `g` in a row. -/
def gexp (x : Vec Ideal S256x4096 .bf16) (r : Fin 256) (g : ℕ) : BitVec 32 := expK (groupMag x r g * inv448)

theorem exponent_lane (x : Vec Ideal S256x4096 .bf16) (r : Fin 256) (g : ℕ) (hg : g < 128) :
    k0_pay71 (scaledMax x) (k0_pay68 (scaledMax x) 0#32) (k0_pay69 (scaledMax x) 0#32) k0_pay70 (ix2 r ⟨laneOf g, laneOf_lt g⟩) = gexp x r g := by
  rw [exponent_apply, scaledMax_apply, group_lane ⟨g, hg⟩]
  rfl

theorem clipChunk_apply (x : Vec Ideal S256x4096 .bf16) (ex : Vec Ideal S128x4096 .bf16) (hex : IsExpand ex) (r : Fin 256) (c : Fin 4096) :
    clipChunk x ex (ix2 r c)
      = min (Ideal.ofBits .f32 0x43E00000#32) (max (Ideal.ofBits .f32 0xC3E00000#32)
          (x (ix2 r c) * Ideal.ofBits .f32 (IntOp.shli .vector (127#32 - gexp x r (c.val / 32)) 23#32))) := by
  unfold clipChunk codesChunk
  pointwise [k0_pay75, k0_pay2, k0_pay1]
  have key := sum_select (fun p => Ideal.ofBits .f32 (IntOp.shli .vector (IntOp.subi 127#32 (k0_pay71 (scaledMax x) (k0_pay68 (scaledMax x) 0#32) (k0_pay69 (scaledMax x) 0#32) k0_pay70 (ix2 r p))) 23#32)) _ (laneOf_lt (c.val / 32))
  simp only [hex _ _]
  rw [key, exponent_lane x r _ (by omega)]
  rfl

theorem scalesChunk_apply (x : Vec Ideal S256x4096 .bf16) (ord : Vec Ideal S128x128 .bf16) (hord : IsOrder ord) (r : Fin 256) (g : Fin 128) :
    scalesChunk x ord (ix2 r g) = (Ideal.fptosi 32 ((((biasW (gexp x r g.val)).toInt : ℝ) : EReal))).setWidth 8 := by
  unfold scalesChunk
  pointwise [k0_pay76, k0_pay74, k0_pay72]
  have key := sum_select (fun p => FloatOps.sitofp (F := Ideal) .f32 (IntOp.minsi 254#32 (IntOp.maxsi 0#32 (IntOp.addi (k0_pay71 (scaledMax x) (k0_pay68 (scaledMax x) 0#32) (k0_pay69 (scaledMax x) 0#32) k0_pay70 (ix2 r p)) 127#32)))) _ (laneOf_lt g.val)
  simp only [hord _ _]
  rw [key, exponent_lane x r _ g.isLt]
  rfl

theorem deqChunk_apply (x : Vec Ideal S256x4096 .bf16) (ex : Vec Ideal S128x4096 .bf16) (hex : IsExpand ex) (r : Fin 256) (c : Fin 4096) :
    deqChunk x ex (ix2 r c)
      = clipChunk x ex (ix2 r c) * Ideal.ofBits .f32 (IntOp.shli .vector (biasW (gexp x r (c.val / 32))) 23#32) := by
  unfold deqChunk
  pointwise [k0_pay77, k0_pay73, k0_pay72, k0_pay1]
  have key := sum_select (fun p => Ideal.ofBits .f32 (IntOp.shli .vector (IntOp.minsi 254#32 (IntOp.maxsi 0#32 (IntOp.addi (k0_pay71 (scaledMax x) (k0_pay68 (scaledMax x) 0#32) (k0_pay69 (scaledMax x) 0#32) k0_pay70 (ix2 r p)) 127#32))) 23#32)) _ (laneOf_lt (c.val / 32))
  simp only [hex _ _]
  rw [key, exponent_lane x r _ (by omega)]
  rfl

end Cert.KernelIdeal.Hand

end
-- ==== Proof.Table.Order.lean ====
/- The literal table of the ordering matrix: each row has its one where the lane of a group meets the group. -/
module

public import proofs.«01_k».proof.KernelIdeal
public import proofs.«01_k».proof.Proof.QuantChunk

@[expose] public section

set_option maxRecDepth 16384

namespace Cert.KernelIdeal.Table

open Cert.KernelIdeal
open Cert.KernelIdeal.Hand (laneOf)

/-- Rows 0 to 15 of the ordering table. -/
theorem order_0 : ∀ (r : Fin 16) (q : Fin 128), lit0t (128 * (16 * 0 + r.val) + q.val)
    = cond (Nat.beq (16 * 0 + r.val) (laneOf q.val)) 0x3F80#16 0#16 := by
  decide +kernel

/-- Rows 16 to 31 of the ordering table. -/
theorem order_1 : ∀ (r : Fin 16) (q : Fin 128), lit0t (128 * (16 * 1 + r.val) + q.val)
    = cond (Nat.beq (16 * 1 + r.val) (laneOf q.val)) 0x3F80#16 0#16 := by
  decide +kernel

/-- Rows 32 to 47 of the ordering table. -/
theorem order_2 : ∀ (r : Fin 16) (q : Fin 128), lit0t (128 * (16 * 2 + r.val) + q.val)
    = cond (Nat.beq (16 * 2 + r.val) (laneOf q.val)) 0x3F80#16 0#16 := by
  decide +kernel

/-- Rows 48 to 63 of the ordering table. -/
theorem order_3 : ∀ (r : Fin 16) (q : Fin 128), lit0t (128 * (16 * 3 + r.val) + q.val)
    = cond (Nat.beq (16 * 3 + r.val) (laneOf q.val)) 0x3F80#16 0#16 := by
  decide +kernel

/-- Rows 64 to 79 of the ordering table. -/
theorem order_4 : ∀ (r : Fin 16) (q : Fin 128), lit0t (128 * (16 * 4 + r.val) + q.val)
    = cond (Nat.beq (16 * 4 + r.val) (laneOf q.val)) 0x3F80#16 0#16 := by
  decide +kernel

/-- Rows 80 to 95 of the ordering table. -/
theorem order_5 : ∀ (r : Fin 16) (q : Fin 128), lit0t (128 * (16 * 5 + r.val) + q.val)
    = cond (Nat.beq (16 * 5 + r.val) (laneOf q.val)) 0x3F80#16 0#16 := by
  decide +kernel

/-- Rows 96 to 111 of the ordering table. -/
theorem order_6 : ∀ (r : Fin 16) (q : Fin 128), lit0t (128 * (16 * 6 + r.val) + q.val)
    = cond (Nat.beq (16 * 6 + r.val) (laneOf q.val)) 0x3F80#16 0#16 := by
  decide +kernel

/-- Rows 112 to 127 of the ordering table. -/
theorem order_7 : ∀ (r : Fin 16) (q : Fin 128), lit0t (128 * (16 * 7 + r.val) + q.val)
    = cond (Nat.beq (16 * 7 + r.val) (laneOf q.val)) 0x3F80#16 0#16 := by
  decide +kernel

end Cert.KernelIdeal.Table
-- ==== Proof.Table.Read.lean ====
/- The literal table of the ordering matrix read at every row and column. -/
module

public import proofs.«01_k».proof.Proof.Table.Order

@[expose] public section

set_option maxRecDepth 16384

namespace Cert.KernelIdeal.Table

open Cert.KernelIdeal
open Cert.KernelIdeal.Hand (laneOf)

/-- The ordering table at a bounded index. -/
theorem lit0_val (n : Fin 16384) (k : Nat) (e : n.val = k) : lit0 n = lit0t k := by
  obtain ⟨i, h⟩ := n
  replace e : i = k := e
  subst e
  delta lit0; dsimp only

/-- Row `p`, column `q` of the ordering table. -/
theorem order_read (p q : Fin 128) :
    lit0t (128 * p.val + q.val) = if p.val = laneOf q.val then 0x3F80#16 else 0x0000#16 := by
  have key : lit0t (128 * p.val + q.val) = cond (Nat.beq p.val (laneOf q.val)) 0x3F80#16 0x0000#16 := by
    obtain ⟨k, r, e⟩ : ∃ (k : Fin 8) (r : Fin 16), p.val = 16 * k.val + r.val :=
      ⟨⟨p.val / 16, by omega⟩, ⟨p.val % 16, by omega⟩, by simp only; omega⟩
    rw [e]
    obtain ⟨k, hk⟩ := k
    interval_cases k
    · exact order_0 r q
    · exact order_1 r q
    · exact order_2 r q
    · exact order_3 r q
    · exact order_4 r q
    · exact order_5 r q
    · exact order_6 r q
    · exact order_7 r q
  rw [key]
  by_cases h : p.val = laneOf q.val
  · rw [if_pos h, ← h, Nat.beq_refl]; rfl
  · rw [if_neg h]
    cases hb : Nat.beq p.val (laneOf q.val) with
    | false => rfl
    | true => exact absurd (Nat.eq_of_beq_eq_true hb) h

end Cert.KernelIdeal.Table
-- ==== Proof.Host.lean ====
/- What the operations before the kernel leave in its three staged operands: the two 0/1 matrices that carry a group's
   scale to the lanes of the group, and the activations read as one row per token. -/
module

public import proofs.«01_k».proof.Proof.FrameHand
public import proofs.«01_k».proof.Proof.Table.Read
public import Idealize.ShloMosaic.Lib.Claim
public import Idealize.ShloMosaic.Lib.StableHlo.RunRead
public import Idealize.ShloMosaic.Lib.StableHlo.ReadAt
public import Idealize.ShloMosaic.Lib.IdealHost

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

/-! ## The operands -/

variable (m : (ℓ : Loc nD τ sig) → Buf (Elt Ideal) ℓ)

/-- The ordering table's entry at row `p`, column `q`, as a number. -/
theorem order_entry (p q : Fin 128) :
    Ideal.ofBits .bf16 (lit0 (S128x128.rowMajor (ix2 p q))) = if p.val = laneOf q.val then (1 : EReal) else 0 := by
  have e : (S128x128.rowMajor (ix2 p q)).val = 128 * p.val + q.val :=
    (Shape.rowMajor_val_two (d := ![128, 128]) (ix2 p q)).trans (by show p.val * 128 + q.val = _; omega)
  rw [Table.lit0_val _ _ e, Table.order_read]
  split
  · exact Ideal.ofBits_one_bf16
  · exact Ideal.ofBits_zero_bf16

/-- The second operand carries the scale of a group to the group's 32 columns. -/
theorem V_expand (c : Dev nD) : IsExpand (Gen.V m c main_v2) := by
  intro p q
  unfold Gen.V
  after_reads_simp
  pointwise
  exact order_entry p ⟨q.val / 32, by omega⟩

/-- The third operand puts the scales, found in lane order, into group order. -/
theorem V_order (c : Dev nD) : IsOrder (Gen.V m c main_cst) := by
  intro p q
  unfold Gen.V
  after_reads_simp
  exact order_entry p q

/-- The activations, one row per token. -/
def flatX (x : Vec Ideal S3x512x4096 .bf16) : Vec Ideal S1536x4096 .bf16 :=
  shapeCast S1536x4096 x shapeCasts_S3x512x4096_S1536x4096

/-- The first operand is the activations, one row per token. -/
theorem V_x (c : Dev nD) : Gen.V m c main_v3 = flatX (m ((c : Thread nD τ).loc main_arg0)) := by
  unfold Gen.V
  after_reads_simp
  rfl

end Cert.KernelIdeal.Hand
-- ==== Proof.KerArrays.lean ====
/- What the kernel's run leaves in its three result arrays, as arithmetic of its operands: the codes and the scales whole
   from the last point, the activated product one tile of 512 columns per point. -/
module

public import proofs.«01_k».proof.Proof.Host
public import Idealize.ShloMosaic.Lib.Pipeline.ValueKit

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic

variable (m : (ℓ : Loc nD τ sig) → Buf (Elt Ideal) ℓ)

/-- The last grid point. -/
def ptLast : Fin cfg0.N := ⟨8, lt_of_lt_of_eq (by decide : 8 < 9) N_0.symm⟩

/-- Where each window's block lies at a point: the weight tiles and the product's tile move along the columns, the rest
    stay at the origin. -/
theorem idx : ∀ t : Fin cfg0.N, win0_0.index t = ![0, 0] ∧ win0_1.index t = ![0, 0] ∧ win0_2.index t = ![0, 0]
    ∧ win0_3.index t = ![0, t.val] ∧ win0_4.index t = ![0, t.val] ∧ win0_5.index t = ![0, t.val]
    ∧ win0_6.index t = ![0, 0] ∧ win0_7.index t = ![0, 0] :=
  (by decide +kernel : ∀ t : Fin grid0.N, _)

/-- The activations' window is the whole array. -/
theorem iblk0 (c : Dev nD) : iblk m c 0 pt0 = flatX (m ((c : Thread nD τ).loc main_arg0)) := by
  rw [← V_x]
  blk_ext! [iblk, idx pt0]

/-- The spreading matrix's window is the whole array. -/
theorem iblk1 (c : Dev nD) : iblk m c 1 pt0 = Gen.V m c main_v2 := by
  blk_ext! [iblk, idx pt0]

/-- The ordering matrix's window is the whole array. -/
theorem iblk2 (c : Dev nD) : iblk m c 2 pt0 = Gen.V m c main_cst := by
  blk_ext! [iblk, idx pt0]

/-- The codes the kernel leaves. -/
theorem final6 (c : Dev nD) : (dats m 0 c).arrAt 6 cfg0.N =
    codesAll (flatX (m ((c : Thread nD τ).loc main_arg0))) (Gen.V m c main_v2) := by
  refine (dats m 0 c).arrAt_eq_of_after_last 6 ptLast (by decide +kernel) _ fun j => ?_
  blk_simp
  rw [after0_6]
  unfold codesOut
  rw [iblk0, iblk1]

/-- The scale bytes the kernel leaves. -/
theorem final7 (c : Dev nD) : (dats m 0 c).arrAt 7 cfg0.N =
    scalesAll (flatX (m ((c : Thread nD τ).loc main_arg0))) (Gen.V m c main_cst) := by
  refine (dats m 0 c).arrAt_eq_of_after_last 7 ptLast (by decide +kernel) _ fun j => ?_
  blk_simp
  rw [after0_7]
  unfold scalesOut
  rw [iblk0, iblk2]

/-- A step's window of weight codes is its 512 columns of the array. -/
theorem iblk3 (c : Dev nD) (t : Fin cfg0.N) (k : Fin 4096) (n : Fin 512) (n' : Fin 4608) (h : n'.val = 512 * t.val + n.val) :
    iblk m c 3 t (ix2 k n) = m ((c : Thread nD τ).loc main_arg1) (ix2 k n') := by
  blk_ext [iblk, V_main_arg1, idx t]

/-- A step's window of weight scales is its 512 columns of the array. -/
theorem iblk4 (c : Dev nD) (t : Fin cfg0.N) (k : Fin 128) (n : Fin 512) (n' : Fin 4608) (h : n'.val = 512 * t.val + n.val) :
    iblk m c 4 t (ix2 k n) = m ((c : Thread nD τ).loc main_arg2) (ix2 k n') := by
  blk_ext [iblk, V_main_arg2, idx t]

end Cert.KernelIdeal.Hand
-- ==== Proof.RefQuant.lean ====
/- The reference's exponents, codes and scales read at an index. -/
module

public import proofs.«01_k».proof.Proof.Gen.ReferenceIdeal.Skeleton
public import proofs.«01_k».proof.Proof.Expo

@[expose] public section

set_option maxRecDepth 16384

noncomputable section

namespace Cert.ReferenceIdeal.Hand

open Cert.ReferenceIdeal Cert.ReferenceIdeal.Gen Cert.Quant
open Idealize.ShloMosaic Idealize.ShloMosaic.TcCoe

/-- The magnitude of an extended real. -/
def mag (v : EReal) : EReal := max v (-v)

/-- The largest magnitude in row `r` of the 32 columns of group `g`. -/
def groupMag (X : Vec Ideal S1536x4096 .bf16) (r : Fin 1536) (g : Fin 128) : EReal :=
  Finset.univ.sup fun o : Fin 32 => mag (X (ix2 r ⟨32 * g.val + o.val, by omega⟩))

/-- The magnitudes, grouped. -/
def absGroups (X : Vec Ideal S1536x4096 .bf16) : FVec Ideal S1536x128x32 .f32 := absf (k0_pay2 X)

theorem absGroups_apply (X : Vec Ideal S1536x4096 .bf16) (r : Fin 1536) (g : Fin 128) (o : Fin 32) :
    absGroups X (ix3 r g o) = mag (X (ix2 r ⟨32 * g.val + o.val, by omega⟩)) := by
  unfold absGroups
  pointwise [k0_pay2]
  have e : (⟨g.val * 32 + o.val, by omega⟩ : Fin 4096) = ⟨32 * g.val + o.val, by omega⟩ := Fin.ext (by simp only; omega)
  rw [e]
  rfl

/-- The maximum over the last axis, from minus infinity. -/
def maxGroups (v : FVec Ideal S1536x128x32 .f32) : FVec Ideal S1536x128 .f32 :=
  reduceFold reduces_S1536x128x32_S1536x128 (FloatOps.maximumf (F := Ideal) (φ := .f32)) (FloatOps.ofBits .f32 0xFF800000#32) v

/-- The float minus infinity. -/
theorem ofBits_bot : Ideal.ofBits .f32 0xFF800000#32 = ⊥ := by
  have a : ((0xFF800000#32).extractLsb' 31 1 == 1#1) = true := by decide
  have b : ((0xFF800000#32).extractLsb' 23 8).toNat = 255 := by decide
  have c : ((0xFF800000#32).extractLsb' 0 23).toNat = 0 := by decide
  unfold Ideal.ofBits Ideal.ieee
  simp only [a, b, c]
  simp

theorem maxGroups_apply (v : FVec Ideal S1536x128x32 .f32) (r : Fin 1536) (g : Fin 128) :
    maxGroups v (ix2 r g) = Finset.univ.sup fun o : Fin 32 => (v (ix3 r g o) : EReal) := by
  refine eq_of_forall_ge_iff fun c => ?_
  unfold maxGroups
  rw [reduceFold_eq_fold]
  have hf : ∀ s : Finset S1536x128x32.Idx, s.fold (FloatOps.maximumf (F := Ideal) (φ := .f32)) (FloatOps.ofBits .f32 0xFF800000#32) v
      = s.fold max (⊥ : EReal) v := by
    intro s
    rw [← ofBits_bot]
    rfl
  rw [hf, Finset.fold_max_le, Finset.sup_le_iff]
  constructor
  · rintro ⟨-, h⟩ o -
    refine h _ (Finset.mem_filter.mpr ⟨Finset.mem_univ _, ?_⟩)
    funext b
    match b with
    | ⟨0, _⟩ => exact Fin.ext (Shape.Reduces.drop_apply_val_of_eq reduces_S1536x128x32_S1536x128 (ix3 r g o) 0 0)
    | ⟨1, _⟩ => exact Fin.ext (Shape.Reduces.drop_apply_val_of_eq reduces_S1536x128x32_S1536x128 (ix3 r g o) 1 1)
  · intro h
    refine ⟨bot_le, fun i hi => ?_⟩
    have hd := (Finset.mem_filter.mp hi).2
    have e0 := Shape.Reduces.drop_apply_val_of_eq reduces_S1536x128x32_S1536x128 i 0 0
    have e1 := Shape.Reduces.drop_apply_val_of_eq reduces_S1536x128x32_S1536x128 i 1 1
    rw [hd] at e0 e1
    have e : i = ix3 r g (i 2) := by
      funext b
      match b with
      | ⟨0, _⟩ => exact Fin.ext e0.symm
      | ⟨1, _⟩ => exact Fin.ext e1.symm
      | ⟨2, _⟩ => rfl
    rw [e]
    exact h (i 2) (Finset.mem_univ _)

/-- The exponents computed from the maxima. -/
def expVec (v5 : FVec Ideal S1536x128 .f32) : IVec S1536x128 32 :=
  select (cmpf .oeq v5 (broadcast S1536x128 (Scalar.ofBits (F := Ideal) .f32 0x00000000#32))) (broadcast S1536x128 0#32)
    (fptosi 32 (addf (floor (divf (log (mulf v5 (broadcast S1536x128 (Scalar.ofBits (F := Ideal) .f32 0x3B124925#32))))
      (broadcast S1536x128 (Scalar.log (Scalar.ofBits (F := Ideal) .f32 0x40000000#32)))))
      (broadcast S1536x128 (Scalar.ofBits (F := Ideal) .f32 0x3F800000#32))))

theorem expVec_apply (v : FVec Ideal S1536x128 .f32) (y : S1536x128.Idx) : expVec v y = expR (v y) := by
  generalize hv : v y = a
  unfold expVec
  simp only [select, cmpf, broadcast, fptosi, addf, floor, divf, log, mulf, hv]
  rfl

theorem pay3_eq (X : Vec Ideal S1536x4096 .bf16) : k0_pay3 X = expVec (maxGroups (absGroups X)) := by
  have hA : multiReduction .maximumf [2] S1536x128 (absf (k0_pay2 X)) 0xFF800000#32 reduces_S1536x128x32_S1536x128 (.inl rfl) rfl
      = maxGroups (absGroups X) := by
    unfold maxGroups absGroups
    exact multiReduction_maximumf_eq_reduceFold _ _ _ _ _
  exact congrArg expVec hA

/-- The reference's exponent of a group. -/
theorem pay3_apply (X : Vec Ideal S1536x4096 .bf16) (r : Fin 1536) (g : Fin 128) :
    k0_pay3 X (ix2 r g) = expR (groupMag X r g) := by
  rw [pay3_eq, expVec_apply, maxGroups_apply]
  simp only [absGroups_apply]
  rfl

theorem pay4_apply (X : Vec Ideal S1536x4096 .bf16) (r : Fin 1536) (g : Fin 128) (o : Fin 32) :
    k0_pay4 X (ix3 r g o)
      = min (Ideal.ofBits .f32 0x43E00000#32) (max (Ideal.ofBits .f32 0xC3E00000#32)
          (X (ix2 r ⟨32 * g.val + o.val, by omega⟩)
            * Ideal.exp2 ((((0#32 - expR (groupMag X r g)).toInt : ℝ) : EReal)))) := by
  pointwise [k0_pay4, k0_pay2]
  rw [pay3_apply]
  have e : (⟨g.val * 32 + o.val, by omega⟩ : Fin 4096) = ⟨32 * g.val + o.val, by omega⟩ := Fin.ext (by simp only; omega)
  rw [e]
  rfl

theorem pay5_apply (X : Vec Ideal S1536x4096 .bf16) (r : Fin 1536) (g : Fin 128) :
    k0_pay5 X (ix2 r g) = (biasW (expR (groupMag X r g))).setWidth 8 := by
  pointwise [k0_pay5]
  rw [pay3_apply]
  rfl

theorem pay6_apply (X : Vec Ideal S1536x4096 .bf16) (r : Fin 1536) (c : Fin 4096) :
    k0_pay6 X (ix2 r c) = k0_pay4 X (ix3 r ⟨c.val / 32, by omega⟩ ⟨c.val % 32, by omega⟩) := by
  pointwise [k0_pay6]

/-- The tanh form of GELU, as both programs write it. -/
def gelu (h : EReal) : EReal :=
  (Ideal.ofBits .f32 0x3F000000#32 * h) * (1 + Ideal.tanh (Ideal.ofBits .f32 0x3F4C422A#32 *
    (h + ((Ideal.ofBits .f32 0x3D372713#32 * h) * h) * h)))

theorem pay1_apply (v31 : FVec Ideal S1536x128x32 .fp8e4m3) (v38 : IVec S1536x128 8) (v43 : Vec Ideal S4096x4608 .fp8e4m3)
    (v51 : Vec Ideal S128x4608 .i8) (r : Fin 1536) (n : Fin 4608) :
    k0_pay1 v31 v38 v43 v51 (ix2 r n) = gelu (∑ g : Fin 128,
      (∑ o : Fin 32, v31 (ix3 r g o) * v43 (ix2 ⟨g.val * 32 + o.val, by omega⟩ n))
        * Ideal.exp2 (((((v38 (ix2 r g)).setWidth 32 - 127#32).toInt : ℝ) : EReal))
        * Ideal.exp2 (((((v51 (ix2 g n)).setWidth 32 - 127#32).toInt : ℝ) : EReal))) := by
  unfold gelu
  pointwise [k0_pay1]
  rfl

end Cert.ReferenceIdeal.Hand

end
-- ==== Proof.Meet.lean ====
/- The kernel's codes, scales and output tiles are the reference's, at every index, when every group's largest
   magnitude is tame and every weight scale is between 1 and 254. -/
module

public import proofs.«01_k».proof.Proof.QuantChunk
public import proofs.«01_k».proof.Proof.RefQuant

@[expose] public section

set_option maxRecDepth 16384

noncomputable section

namespace Cert.Meet

open Idealize.ShloMosaic Idealize.ShloMosaic.TcCoe
open Cert.Quant Cert.KernelIdeal.Hand

abbrev RefMag := @Cert.ReferenceIdeal.Hand.groupMag

/-- The activations, the codes and so on as the two programs' arrays. -/
abbrev SX : Shape := ⟨2, ![1536, 4096]⟩

theorem rowsOf_apply (X : Vec Ideal SX .bf16) (k : Fin 6) (r : Fin 256) (c : Fin 4096) :
    rowsOf X k (ix2 r c) = X (ix2 ⟨256 * k.val + r.val, by omega⟩ c) := by
  exact congrArg X (at2_eq (256 * k.val + r.val) c.val (by omega) c.isLt)

theorem bandOf_apply (D : Vec Ideal SX .bf16) (k : Fin 3) (r : Fin 512) (c : Fin 4096) :
    bandOf D k (ix2 r c) = D (ix2 ⟨512 * k.val + r.val, by omega⟩ c) := by
  exact congrArg D (at2_eq (512 * k.val + r.val) c.val (by omega) c.isLt)

/-- A chunk's group maximum is the reference's. -/
theorem groupMag_rows (X : Vec Ideal SX .bf16) (r : Fin 1536) (g : Fin 128) :
    groupMag (rowsOf X ⟨r.val / 256, row_div r⟩) ⟨r.val % 256, row_mod r⟩ g.val = Cert.ReferenceIdeal.Hand.groupMag X r g := by
  unfold groupMag Cert.ReferenceIdeal.Hand.groupMag
  refine congrArg (Finset.univ.sup) (funext fun o => ?_)
  unfold colMag
  rw [dif_pos (by omega), rowsOf_apply]
  have e : (⟨256 * (r.val / 256) + r.val % 256, by omega⟩ : Fin 1536) = r := Fin.ext (by simp only; omega)
  rw [e]
  rfl

/-- The kernel's exponent of a group in the chunk that holds the row. -/
theorem gexp_rows (X : Vec Ideal SX .bf16) (r : Fin 1536) (g : Fin 128) :
    gexp (rowsOf X ⟨r.val / 256, row_div r⟩) ⟨r.val % 256, row_mod r⟩ g.val
      = expK (Cert.ReferenceIdeal.Hand.groupMag X r g * inv448) := by
  unfold gexp
  rw [groupMag_rows]

/-- Every group's largest magnitude is tame. -/
def TameX (X : Vec Ideal SX .bf16) : Prop := ∀ r g, Tame (Cert.ReferenceIdeal.Hand.groupMag X r g)

/-- The clipped quotient at a place. -/
theorem clip_rows (X : Vec Ideal SX .bf16) (ex : Vec Ideal ⟨2, ![128, 4096]⟩ .bf16) (hex : IsExpand ex) (hX : TameX X)
    (r : Fin 1536) (c : Fin 4096) :
    clipChunk (rowsOf X ⟨r.val / 256, row_div r⟩) ex (ix2 ⟨r.val % 256, row_mod r⟩ c)
      = Cert.ReferenceIdeal.Gen.k0_pay6 X (ix2 r c) := by
  rw [Cert.ReferenceIdeal.Hand.pay6_apply, Cert.ReferenceIdeal.Hand.pay4_apply, clipChunk_apply _ _ hex, rowsOf_apply]
  obtain ⟨z, h1, h2, hk, hr⟩ := exp_eq _ (hX r ⟨c.val / 32, by omega⟩)
  have hg := gexp_rows X r ⟨c.val / 32, by omega⟩
  simp only at hg
  rw [hg, hk, hr, (inv_pow z h1 h2).1, (inv_pow z h1 h2).2]
  have e : (⟨256 * (r.val / 256) + r.val % 256, by omega⟩ : Fin 1536) = r := Fin.ext (by simp only; omega)
  have e' : (⟨32 * (c.val / 32) + c.val % 32, by omega⟩ : Fin 4096) = c := Fin.ext (by simp only; omega)
  rw [e, e']

/-- The kernel's codes are the reference's. -/
theorem codes_eq (X : Vec Ideal SX .bf16) (ex : Vec Ideal ⟨2, ![128, 4096]⟩ .bf16) (hex : IsExpand ex) (hX : TameX X) :
    codesAll X ex = Cert.ReferenceIdeal.Gen.k0_pay6 X := by
  funext y
  obtain ⟨r, c, rfl⟩ : ∃ (r : Fin 1536) (c : Fin 4096), y = ix2 r c := ⟨y 0, y 1, eq_ix2 y⟩
  rw [← clip_rows X ex hex hX]
  exact congrArg (codesChunk (rowsOf X ⟨r.val / 256, row_div r⟩) ex) (at2_eq (r.val % 256) c.val (row_mod r) c.isLt)

/-- The kernel's scales are the reference's. -/
theorem scales_eq (X : Vec Ideal SX .bf16) (ord : Vec Ideal ⟨2, ![128, 128]⟩ .bf16) (hord : IsOrder ord) (hX : TameX X) :
    scalesAll X ord = Cert.ReferenceIdeal.Gen.k0_pay5 X := by
  funext y
  obtain ⟨r, g, rfl⟩ : ∃ (r : Fin 1536) (g : Fin 128), y = ix2 r g := ⟨y 0, y 1, eq_ix2 y⟩
  rw [Cert.ReferenceIdeal.Hand.pay5_apply]
  obtain ⟨z, h1, h2, hk, hr⟩ := exp_eq _ (hX r g)
  have e : scalesAll X ord (ix2 r g) = scalesChunk (rowsOf X ⟨r.val / 256, row_div r⟩) ord (ix2 ⟨r.val % 256, row_mod r⟩ g) := by
    exact congrArg (scalesChunk (rowsOf X ⟨r.val / 256, row_div r⟩) ord) (at2_eq (r.val % 256) g.val (row_mod r) g.isLt)
  rw [e, scalesChunk_apply _ _ hord, gexp_rows, hk, hr]
  obtain ⟨-, -, a, b⟩ := scale_pow z h1 h2
  rw [a, fptosi_int _ (by omega) (by omega), b]

/-- The dequantised activation at a place: its code times its group's power of two. -/
theorem deq_eq (X : Vec Ideal SX .bf16) (ex : Vec Ideal ⟨2, ![128, 4096]⟩ .bf16) (hex : IsExpand ex) (hX : TameX X)
    (r : Fin 1536) (c : Fin 4096) :
    deqAll X ex (ix2 r c) = Cert.ReferenceIdeal.Gen.k0_pay6 X (ix2 r c)
      * Ideal.exp2 (((((Cert.ReferenceIdeal.Gen.k0_pay5 X (ix2 r ⟨c.val / 32, by omega⟩)).setWidth 32 - 127#32).toInt : ℝ) : EReal)) := by
  rw [← clip_rows X ex hex hX, Cert.ReferenceIdeal.Hand.pay5_apply]
  obtain ⟨z, h1, h2, hk, hr⟩ := exp_eq _ (hX r ⟨c.val / 32, by omega⟩)
  have hg := gexp_rows X r ⟨c.val / 32, by omega⟩
  simp only at hg
  have e : deqAll X ex (ix2 r c) = deqChunk (rowsOf X ⟨r.val / 256, row_div r⟩) ex (ix2 ⟨r.val % 256, row_mod r⟩ c) := by
    exact congrArg (deqChunk (rowsOf X ⟨r.val / 256, row_div r⟩) ex) (at2_eq (r.val % 256) c.val (row_mod r) c.isLt)
  obtain ⟨a, b, -, -⟩ := scale_pow z h1 h2
  rw [e, deqChunk_apply _ _ hex, hg, hk, hr, a, b]

/-- The power of two of a scale byte is a positive real. -/
theorem exp2_pos_real (z : ℤ) : ∃ t : ℝ, 0 ≤ t ∧ Ideal.exp2 (((z : ℝ) : EReal)) = (t : EReal) :=
  ⟨(2 : ℝ) ^ z, by positivity, by rw [exp2_int]; rfl⟩

/-- A nonnegative real factor of every term of a sum of extended reals is a factor of the sum. -/
theorem sum_mul_real {n : ℕ} (f : Fin n → EReal) (t : ℝ) (ht : 0 ≤ t) : (∑ o, f o) * (t : EReal) = ∑ o, f o * (t : EReal) := by
  classical
  induction (Finset.univ : Finset (Fin n)) using Finset.induction_on with
  | empty => simp
  | insert a s ha ih =>
    rw [Finset.sum_insert ha, Finset.sum_insert ha,
      EReal.right_distrib_of_nonneg_of_ne_top (EReal.coe_nonneg.mpr ht) (EReal.coe_ne_top t), ih]

/-- A sum over all columns is the sum over the groups of the sums over a group's columns. -/
theorem sum_groups (f : Fin 4096 → EReal) : (∑ k, f k) = ∑ g : Fin 128, ∑ o : Fin 32, f ⟨g.val * 32 + o.val, by omega⟩ := by
  rw [← Equiv.sum_comp (finProdFinEquiv (m := 128) (n := 32)) f, Fintype.sum_prod_type]
  refine Finset.sum_congr rfl fun g _ => Finset.sum_congr rfl fun o _ => ?_
  refine congrArg f (Fin.ext ?_)
  show o.val + 32 * g.val = g.val * 32 + o.val
  omega

/-- The product of the dequantised operands is the sum of the groups' code products, each scaled. -/
theorem dot_groups (a w : Fin 4096 → EReal) (s t : Fin 128 → EReal) (hs : ∀ g, ∃ u : ℝ, 0 ≤ u ∧ s g = (u : EReal))
    (ht : ∀ g, ∃ u : ℝ, 0 ≤ u ∧ t g = (u : EReal)) :
    (∑ k : Fin 4096, (a k * s ⟨k.val / 32, by omega⟩) * (w k * t ⟨k.val / 32, by omega⟩))
      = ∑ g : Fin 128, (∑ o : Fin 32, a ⟨g.val * 32 + o.val, by omega⟩ * w ⟨g.val * 32 + o.val, by omega⟩) * s g * t g := by
  rw [sum_groups]
  refine Finset.sum_congr rfl fun g _ => ?_
  obtain ⟨u, hu, eu⟩ := hs g
  obtain ⟨v, hv, ev⟩ := ht g
  rw [eu, ev, sum_mul_real _ u hu, sum_mul_real _ v hv]
  refine Finset.sum_congr rfl fun o _ => ?_
  have e : (⟨(g.val * 32 + o.val) / 32, by omega⟩ : Fin 128) = g := Fin.ext (by simp only; omega)
  simp only [e, eu, ev]
  rw [mul_mul_mul_comm, ← mul_assoc]

/-- A tile of the output at a place. -/
theorem outTile_apply (D : Vec Ideal SX .bf16) (w : Vec Ideal ⟨2, ![4096, 512]⟩ .fp8e4m3) (ws : Vec Ideal ⟨2, ![128, 512]⟩ .i8)
    (r : Fin 1536) (n : Fin 512) :
    outTile D w ws (ix2 r n) = Cert.ReferenceIdeal.Hand.gelu (∑ k : Fin 4096, D (ix2 r k)
      * (w (ix2 k n) * Ideal.ofBits .f32 (IntOp.shli .vector ((ws (ix2 ⟨k.val / 32, by omega⟩ n)).setWidth 32) 23#32))) := by
  have e : outTile D w ws (ix2 r n) = Cert.KernelIdeal.Gen.k0_pay79 (bandOf D ⟨r.val / 512, band_div r⟩) (Cert.KernelIdeal.Gen.k0_pay78 ws w)
      (ix2 ⟨r.val % 512, band_mod r⟩ n) :=
    congrArg (Cert.KernelIdeal.Gen.k0_pay79 (bandOf D ⟨r.val / 512, band_div r⟩) (Cert.KernelIdeal.Gen.k0_pay78 ws w))
      (at2_eq (r.val % 512) n.val (band_mod r) n.isLt)
  have er : (⟨512 * (r.val / 512) + r.val % 512, by omega⟩ : Fin 1536) = r := Fin.ext (by simp only; omega)
  rw [e]
  unfold Cert.ReferenceIdeal.Hand.gelu
  pointwise [Cert.KernelIdeal.Gen.k0_pay79, Cert.KernelIdeal.Gen.k0_pay78]
  simp only [bandOf_apply, er]

/-- The weight scales are bytes between 1 and 254. -/
def TameS (WS : Vec Ideal ⟨2, ![128, 4608]⟩ .i8) : Prop :=
  ∀ g n, 1 ≤ BitVec.toNat (WS (ix2 g n)) ∧ BitVec.toNat (WS (ix2 g n)) ≤ 254

/-- A tile of the kernel's output is the reference's output on the tile's columns. -/
theorem y_eq (X : Vec Ideal SX .bf16) (ex : Vec Ideal ⟨2, ![128, 4096]⟩ .bf16) (hex : IsExpand ex) (hX : TameX X)
    (W : Vec Ideal ⟨2, ![4096, 4608]⟩ .fp8e4m3) (WS : Vec Ideal ⟨2, ![128, 4608]⟩ .i8) (hS : TameS WS)
    (w : Vec Ideal ⟨2, ![4096, 512]⟩ .fp8e4m3) (ws : Vec Ideal ⟨2, ![128, 512]⟩ .i8) (r : Fin 1536) (n : Fin 512) (n' : Fin 4608)
    (hw : ∀ k, w (ix2 k n) = W (ix2 k n')) (hws : ∀ g, ws (ix2 g n) = WS (ix2 g n')) :
    outTile (deqAll X ex) w ws (ix2 r n)
      = Cert.ReferenceIdeal.Gen.k0_pay1 (Cert.ReferenceIdeal.Gen.k0_pay4 X) (Cert.ReferenceIdeal.Gen.k0_pay5 X) W WS (ix2 r n') := by
  rw [outTile_apply, Cert.ReferenceIdeal.Hand.pay1_apply]
  refine congrArg Cert.ReferenceIdeal.Hand.gelu ?_
  have key := dot_groups (fun c => Cert.ReferenceIdeal.Gen.k0_pay6 X (ix2 r c)) (fun k => W (ix2 k n'))
    (fun g => Ideal.exp2 (((((Cert.ReferenceIdeal.Gen.k0_pay5 X (ix2 r g)).setWidth 32 - 127#32).toInt : ℝ) : EReal)))
    (fun g => Ideal.exp2 (((((WS (ix2 g n')).setWidth 32 - 127#32).toInt : ℝ) : EReal)))
    (fun g => exp2_pos_real _) (fun g => exp2_pos_real _)
  refine Eq.trans (Finset.sum_congr rfl fun k _ => ?_) (key.trans (Finset.sum_congr rfl fun g _ => ?_))
  · obtain ⟨a, b⟩ := byte_pow (WS (ix2 ⟨k.val / 32, by omega⟩ n')) (hS _ _).1 (hS _ _).2
    rw [deq_eq X ex hex hX, hw, hws, a, b]
  · refine congrArg₂ (· * ·) (congrArg₂ (· * ·) (Finset.sum_congr rfl fun o _ => ?_) rfl) rfl
    rw [Cert.ReferenceIdeal.Hand.pay6_apply]
    have e1 : (⟨(g.val * 32 + o.val) / 32, by omega⟩ : Fin 128) = g := Fin.ext (by simp only; omega)
    have e2 : (⟨(g.val * 32 + o.val) % 32, by omega⟩ : Fin 32) = o := Fin.ext (by simp only; omega)
    rw [e1, e2]

end Cert.Meet

end
-- ==== Proof.RefArrays.lean ====
/- What the reference's run leaves in its three result arrays: its own arithmetic of its whole operands. -/
module

public import proofs.«01_k».proof.Proof.Gen.ReferenceIdeal.Value
public import Idealize.ShloMosaic.Lib.Claim
public import Idealize.ShloMosaic.Lib.Pointwise
public import Idealize.ShloMosaic.Lib.Pipeline.ValueKit

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic

variable (m : (ℓ : Loc nD τ sig) → Buf (Elt Ideal) ℓ)

/-- The one grid point. -/
def pt0 : Fin cfg0.N := ⟨0, by decide⟩

/-- Every window's block is at the origin. -/
theorem idx : ∀ t : Fin cfg0.N, win0_0.index t = ![0, 0] ∧ win0_1.index t = ![0, 0] ∧ win0_2.index t = ![0, 0]
    ∧ win0_3.index t = ![0, 0] ∧ win0_4.index t = ![0, 0] ∧ win0_5.index t = ![0, 0] :=
  (by decide +kernel : ∀ t : Fin grid0.N, _)

/-- The activations, one row per token. -/
def flatX (x : Vec Ideal S3x512x4096 .bf16) : Vec Ideal S1536x4096 .bf16 :=
  shapeCast S1536x4096 x shapeCasts_S3x512x4096_S1536x4096

/-- The first operand is the activations, one row per token. -/
theorem V_x (c : Dev nD) : Gen.V m c main_v0 = flatX (m ((c : Thread nD τ).loc main_arg0)) := by
  entry_read
  rfl

theorem iblk0 (c : Dev nD) : iblk m c 0 pt0 = flatX (m ((c : Thread nD τ).loc main_arg0)) := by
  rw [← V_x]
  blk_ext! [iblk, idx pt0]

theorem iblk1 (c : Dev nD) : iblk m c 1 pt0 = m ((c : Thread nD τ).loc main_arg1) := by
  blk_ext! [iblk, V, idx pt0]

theorem iblk2 (c : Dev nD) : iblk m c 2 pt0 = m ((c : Thread nD τ).loc main_arg2) := by
  blk_ext! [iblk, V, idx pt0]

/-- The scale bytes the reference leaves. -/
theorem final5 (c : Dev nD) : (dats m 0 c).arrAt 5 cfg0.N = k0_pay5 (flatX (m ((c : Thread nD τ).loc main_arg0))) := by
  refine (dats m 0 c).arrAt_eq_of_after_last 5 pt0 (by decide +kernel) _ fun j => ?_
  blk_simp
  rw [after0_5, iblk0]
  frame_out
  unfold k0_pay7
  frame_out

/-- The codes the reference leaves. -/
theorem final4 (c : Dev nD) : (dats m 0 c).arrAt 4 cfg0.N = k0_pay6 (flatX (m ((c : Thread nD τ).loc main_arg0))) := by
  refine (dats m 0 c).arrAt_eq_of_after_last 4 pt0 (by decide +kernel) _ fun j => ?_
  blk_simp
  rw [after0_4, iblk0]
  frame_out

/-- The activated product the reference leaves. -/
theorem final3 (c : Dev nD) : (dats m 0 c).arrAt 3 cfg0.N =
    k0_pay1 (k0_pay4 (flatX (m ((c : Thread nD τ).loc main_arg0)))) (k0_pay5 (flatX (m ((c : Thread nD τ).loc main_arg0))))
      (m ((c : Thread nD τ).loc main_arg1)) (m ((c : Thread nD τ).loc main_arg2)) := by
  refine (dats m 0 c).arrAt_eq_of_after_last 3 pt0 (by decide +kernel) _ fun j => ?_
  blk_simp
  rw [after0_3, iblk0, iblk1, iblk2]
  frame_out
  unfold k0_pay7
  frame_out

end Cert.ReferenceIdeal.Hand
-- ==== Proof.TameRead.lean ====
/- The precondition read: all ones says that every group of 32 activations is tame and that no weight scale is 0 or 255. -/
module

public import proofs.«01_k».proof.Pre_tame
public import proofs.«01_k».proof.Proof.Meet
public import proofs.«01_k».proof.Proof.RefArrays

@[expose] public section

set_option maxRecDepth 16384

noncomputable section

namespace Cert.Meet

open Cert.Quant
open Idealize.ShloMosaic Idealize.ShloMosaic.TcCoe

/-- The shape relations the precondition's operations take. -/
theorem tameFacts : Cert.Pre_tame.Facts := ⟨by decide, by decide, by decide, by decide, by decide⟩

/-- The bf16 minus infinity. -/
theorem bot_bf16 : Ideal.ofBits .bf16 0xFF80#16 = ⊥ := by
  have a : ((0xFF80#16).extractLsb' 15 1 == 1#1) = true := by decide
  have b : ((0xFF80#16).extractLsb' 7 8).toNat = 255 := by decide
  have c : ((0xFF80#16).extractLsb' 0 7).toNat = 0 := by decide
  unfold Ideal.ofBits Ideal.ieee
  simp only [a, b, c]
  simp

/-- The bf16 zero. -/
theorem zero_bf16 : Ideal.ofBits .bf16 0x0000#16 = 0 := by
  have a : ((0x0000#16).extractLsb' 15 1 == 1#1) = false := by decide
  have b : ((0x0000#16).extractLsb' 7 8).toNat = 0 := by decide
  have c : ((0x0000#16).extractLsb' 0 7).toNat = 0 := by decide
  unfold Ideal.ofBits Ideal.ieee
  simp only [a, b, c]
  simp

/-- The least maximum the precondition admits besides zero. -/
theorem least_bf16 : Ideal.ofBits .bf16 0x04E0#16 = ((448 * (2 : ℝ) ^ (-126 : ℤ) : ℝ) : EReal) := by
  have a : ((0x04E0#16).extractLsb' 15 1 == 1#1) = false := by decide
  have b : ((0x04E0#16).extractLsb' 7 8).toNat = 9 := by decide
  have c : ((0x04E0#16).extractLsb' 0 7).toNat = 96 := by decide
  unfold Ideal.ofBits Ideal.ieee
  simp only [a, b, c]
  norm_num

/-- The largest finite bf16. -/
theorem most_bf16 : Ideal.ofBits .bf16 0x7F7F#16 = ((255 * (2 : ℝ) ^ (120 : ℤ) : ℝ) : EReal) := by
  have a : ((0x7F7F#16).extractLsb' 15 1 == 1#1) = false := by decide
  have b : ((0x7F7F#16).extractLsb' 7 8).toNat = 254 := by decide
  have c : ((0x7F7F#16).extractLsb' 0 7).toNat = 127 := by decide
  unfold Ideal.ofBits Ideal.ieee
  simp only [a, b, c]
  norm_num

section

variable [Cert.Pre_tame.Facts]

open Cert.Pre_tame Cert.Pre_tame.Facts

/-- The activations' magnitudes, grouped. -/
def preMags (x : FVec Ideal Cert.Pre_tame.S3x512x4096 .bf16) : FVec Ideal S3x512x128x32 .bf16 :=
  Host.absf (shapeCast S3x512x128x32 x shapeCasts_S3x512x4096_S3x512x128x32)

/-- The groups' largest magnitudes, as the precondition computes them. -/
def preMax (x : FVec Ideal Cert.Pre_tame.S3x512x4096 .bf16) : FVec Ideal S3x512x128 .bf16 :=
  Host.reduce FloatOps.maximumf (preMags x) (constant S_ .bf16 0xFF80#16) reducesTo_S3x512x128x32_S3x512x128_d3 h_S_

theorem preMags_apply (x : FVec Ideal Cert.Pre_tame.S3x512x4096 .bf16) (b : Fin 3) (s : Fin 512) (g : Fin 128) (o : Fin 32) :
    preMags x (ix4 b s g o) = Cert.ReferenceIdeal.Hand.mag (Cert.ReferenceIdeal.Hand.flatX x
      (ix2 ⟨512 * b.val + s.val, by omega⟩ ⟨32 * g.val + o.val, by omega⟩)) := by
  unfold preMags Cert.ReferenceIdeal.Hand.flatX
  pointwise
  have e : (⟨g.val * 32 + o.val, by omega⟩ : Fin 4096) = ⟨32 * g.val + o.val, by omega⟩ := Fin.ext (by simp only; omega)
  rw [e]
  rfl

theorem preMax_apply (x : FVec Ideal Cert.Pre_tame.S3x512x4096 .bf16) (b : Fin 3) (s : Fin 512) (g : Fin 128) :
    (preMax x (ix3 b s g) : EReal) = Cert.ReferenceIdeal.Hand.groupMag (Cert.ReferenceIdeal.Hand.flatX x)
      ⟨512 * b.val + s.val, by omega⟩ g := by
  have h0 : (preMax x (ix3 b s g) : EReal) = Finset.univ.sup fun o : Fin 32 => (preMags x (ix4 b s g o) : EReal) := by
    refine eq_of_forall_ge_iff fun c => ?_
    unfold preMax
    rw [Host.reduce_eq_fold]
    have hf : ∀ s : Finset S3x512x128x32.Idx, s.fold (FloatOps.maximumf (F := Ideal) (φ := .bf16))
        ((constant S_ .bf16 0xFF80#16 : FVec Ideal S_ .bf16) (Shape.Idx.first h_S_)) (preMags x)
        = s.fold max (⊥ : EReal) (preMags x) := by
      intro s
      rw [← bot_bf16]
      rfl
    rw [hf, Finset.fold_max_le, Finset.sup_le_iff]
    constructor
    · rintro ⟨-, h⟩ o -
      refine h _ (Finset.mem_filter.mpr ⟨Finset.mem_univ _, ?_⟩)
      funext a
      match a with
      | ⟨0, _⟩ => exact Fin.ext (Shape.ReducesTo.drop_apply_val_of_eq reducesTo_S3x512x128x32_S3x512x128_d3 (ix4 b s g o) 0 0)
      | ⟨1, _⟩ => exact Fin.ext (Shape.ReducesTo.drop_apply_val_of_eq reducesTo_S3x512x128x32_S3x512x128_d3 (ix4 b s g o) 1 1)
      | ⟨2, _⟩ => exact Fin.ext (Shape.ReducesTo.drop_apply_val_of_eq reducesTo_S3x512x128x32_S3x512x128_d3 (ix4 b s g o) 2 2)
    · intro h
      refine ⟨bot_le, fun i hi => ?_⟩
      have hd := (Finset.mem_filter.mp hi).2
      have e0 := Shape.ReducesTo.drop_apply_val_of_eq reducesTo_S3x512x128x32_S3x512x128_d3 i 0 0
      have e1 := Shape.ReducesTo.drop_apply_val_of_eq reducesTo_S3x512x128x32_S3x512x128_d3 i 1 1
      have e2 := Shape.ReducesTo.drop_apply_val_of_eq reducesTo_S3x512x128x32_S3x512x128_d3 i 2 2
      rw [hd] at e0 e1 e2
      have e : i = ix4 b s g (i 3) := by
        funext a
        match a with
        | ⟨0, _⟩ => exact Fin.ext e0.symm
        | ⟨1, _⟩ => exact Fin.ext e1.symm
        | ⟨2, _⟩ => exact Fin.ext e2.symm
        | ⟨3, _⟩ => rfl
      rw [e]
      exact h (i 3) (Finset.mem_univ _)
  rw [h0]
  simp only [preMags_apply]
  rfl

/-- The precondition's test of the maxima. -/
def preTest (M : FVec Ideal S3x512x128 .bf16) : IVec S3x512x128 1 :=
  ori (cmpf .oeq M (broadcastInDim S3x512x128 ![] bcast_S_S3x512x128 (constant S_ .bf16 0x0000#16)))
    (andi (cmpf .oge M (broadcastInDim S3x512x128 ![] bcast_S_S3x512x128 (constant S_ .bf16 0x04E0#16)))
      (cmpf .ole M (broadcastInDim S3x512x128 ![] bcast_S_S3x512x128 (constant S_ .bf16 0x7F7F#16))))

theorem preTest_apply (M : FVec Ideal S3x512x128 .bf16) (y : S3x512x128.Idx) :
    preTest M y = IntOp.ori (Ideal.cmp .oeq (M y) (Ideal.ofBits .bf16 0x0000#16))
      (IntOp.andi (Ideal.cmp .oge (M y) (Ideal.ofBits .bf16 0x04E0#16))
        (Ideal.cmp .ole (M y) (Ideal.ofBits .bf16 0x7F7F#16))) := by
  generalize hv : M y = a
  unfold preTest
  simp only [ori, andi, cmpf, broadcastInDim, constant, hv]
  rfl

/-- The precondition's first result, at a group. -/
theorem pre_fst (x : FVec Ideal Cert.Pre_tame.S3x512x4096 .bf16) (w : FVec Ideal S4096x4608 .fp8e4m3) (ws : IVec S128x4608 8) :
    (Cert.Pre_tame.fn x w ws).1 = preTest (preMax x) := by
  unfold Cert.Pre_tame.fn preTest preMax preMags
  rfl

/-- The precondition's second result, at a weight scale. -/
theorem pre_snd (x : FVec Ideal Cert.Pre_tame.S3x512x4096 .bf16) (w : FVec Ideal S4096x4608 .fp8e4m3) (ws : IVec S128x4608 8)
    (y : S128x4608.Idx) :
    (Cert.Pre_tame.fn x w ws).2 y = IntOp.andi (IntOp.cmpi .uge (ws y) 1#8) (IntOp.cmpi .ule (ws y) 254#8) := by
  unfold Cert.Pre_tame.fn
  dsimp only
  simp only [andi, cmpi, broadcastInDim, constantI]

/-- A bit that is a disjunction of comparisons, set. -/
theorem tame_of_test (a : EReal)
    (h : IntOp.ori (Ideal.cmp .oeq a (Ideal.ofBits .bf16 0x0000#16))
      (IntOp.andi (Ideal.cmp .oge a (Ideal.ofBits .bf16 0x04E0#16)) (Ideal.cmp .ole a (Ideal.ofBits .bf16 0x7F7F#16))) = 1#1) :
    Tame a := by
  rw [zero_bf16, least_bf16, most_bf16] at h
  have h' : BitVec.ofBool (decide (a = 0)) ||| (BitVec.ofBool (decide (((448 * (2 : ℝ) ^ (-126 : ℤ) : ℝ) : EReal) ≤ a))
      &&& BitVec.ofBool (decide (a ≤ ((255 * (2 : ℝ) ^ (120 : ℤ) : ℝ) : EReal)))) = 1#1 := h
  by_cases ha : a = 0
  · exact Or.inl ha
  by_cases hl : ((448 * (2 : ℝ) ^ (-126 : ℤ) : ℝ) : EReal) ≤ a
  · by_cases hm : a ≤ ((255 * (2 : ℝ) ^ (120 : ℤ) : ℝ) : EReal)
    · right
      have h1 : a ≠ ⊤ := fun e => absurd (e ▸ hm) (not_le.mpr (EReal.coe_lt_top _))
      have h2 : a ≠ ⊥ := fun e => absurd (e ▸ hl) (not_le.mpr (EReal.bot_lt_coe _))
      refine ⟨a.toReal, (EReal.coe_toReal h1 h2).symm, ?_, ?_⟩
      · rw [← EReal.coe_toReal h1 h2] at hl; exact EReal.coe_le_coe_iff.mp hl
      · rw [← EReal.coe_toReal h1 h2] at hm; exact EReal.coe_le_coe_iff.mp hm
    · rw [decide_eq_false ha, decide_eq_false hm, decide_eq_true hl] at h'
      exact absurd h' (by decide)
  · rw [decide_eq_false ha, decide_eq_false hl] at h'
    have z : ∀ q : Bool, ¬ (BitVec.ofBool false ||| (BitVec.ofBool false &&& BitVec.ofBool q)) = 1#1 := by decide
    exact absurd h' (z _)

/-- A byte between 1 and 254. -/
theorem byte_of_test : ∀ b : BitVec 8, IntOp.andi (IntOp.cmpi .uge b 1#8) (IntOp.cmpi .ule b 254#8) = 1#1 →
    1 ≤ b.toNat ∧ b.toNat ≤ 254 := by
  decide +kernel

/-- All ones of the activations' test: every group is tame. -/
theorem tameX_of_pre (x : FVec Ideal Cert.Pre_tame.S3x512x4096 .bf16) (w : FVec Ideal S4096x4608 .fp8e4m3) (ws : IVec S128x4608 8)
    (h : (Cert.Pre_tame.fn x w ws).1 = fun _ => 1#1) : TameX (Cert.ReferenceIdeal.Hand.flatX x) := by
  intro r g
  have hr : r = ⟨512 * (⟨r.val / 512, by omega⟩ : Fin 3).val + (⟨r.val % 512, by omega⟩ : Fin 512).val, by simp only; omega⟩ :=
    Fin.ext (by simp only; omega)
  rw [hr, ← preMax_apply]
  refine tame_of_test _ ?_
  rw [← preTest_apply, ← pre_fst x w ws, h]

/-- All ones of the weight scales' test: none is 0 or 255. -/
theorem tameS_of_pre (x : FVec Ideal Cert.Pre_tame.S3x512x4096 .bf16) (w : FVec Ideal S4096x4608 .fp8e4m3) (ws : IVec S128x4608 8)
    (h : (Cert.Pre_tame.fn x w ws).2 = fun _ => 1#1) : TameS ws := by
  intro g n
  refine byte_of_test _ ?_
  rw [← pre_snd x w ws, h]

end

end Cert.Meet
-- ==== Proof.Values.lean ====
/- The kernel's three result arrays are the reference's arithmetic of the kernel's arguments. -/
module

public import proofs.«01_k».proof.Proof.KerArrays
public import proofs.«01_k».proof.Proof.TameRead

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Cert.Meet (TameX TameS)

variable (m : (ℓ : Loc nD τ sig) → Buf (Elt Ideal) ℓ)

/-- The activations as launched, one row per token. -/
def argX (c : Dev nD) : Vec Ideal ⟨2, ![1536, 4096]⟩ .bf16 := flatX (m ((c : Thread nD τ).loc main_arg0))
/-- The weight codes as launched. -/
def argW (c : Dev nD) : Vec Ideal ⟨2, ![4096, 4608]⟩ .fp8e4m3 := m ((c : Thread nD τ).loc main_arg1)
/-- The weight scales as launched. -/
def argWS (c : Dev nD) : Vec Ideal ⟨2, ![128, 4608]⟩ .i8 := m ((c : Thread nD τ).loc main_arg2)

/-- The product of the arguments, as the reference computes it. -/
def refY (c : Dev nD) : Vec Ideal ⟨2, ![1536, 4608]⟩ .bf16 :=
  Cert.ReferenceIdeal.Gen.k0_pay1 (Cert.ReferenceIdeal.Gen.k0_pay4 (argX m c)) (Cert.ReferenceIdeal.Gen.k0_pay5 (argX m c))
    (argW m c) (argWS m c)

/-- The codes the kernel leaves are the reference's. -/
theorem codes_final (c : Dev nD) (hX : TameX (argX m c)) :
    (dats m 0 c).arrAt 6 cfg0.N = Cert.ReferenceIdeal.Gen.k0_pay6 (argX m c) :=
  (final6 m c).trans (Cert.Meet.codes_eq (argX m c) _ (V_expand m c) hX)

/-- The scale bytes the kernel leaves are the reference's. -/
theorem scales_final (c : Dev nD) (hX : TameX (argX m c)) :
    (dats m 0 c).arrAt 7 cfg0.N = Cert.ReferenceIdeal.Gen.k0_pay5 (argX m c) :=
  (final7 m c).trans (Cert.Meet.scales_eq (argX m c) _ (V_order m c) hX)

/-- A tile the kernel leaves is the reference's product on the tile's columns. -/
theorem tile_eq (c : Dev nD) (hX : TameX (argX m c)) (hS : TameS (argWS m c)) (t : Fin cfg0.N) (r : Fin 1536) (n : Fin 512)
    (n' : Fin 4608) (h : n'.val = 512 * t.val + n.val) : tileOut m c t (ix2 r n) = refY m c (ix2 r n') := by
  unfold tileOut deqOut
  rw [iblk0, iblk1]
  exact Cert.Meet.y_eq (argX m c) _ (V_expand m c) hX (argW m c) (argWS m c) hS (iblk m c 3 t) (iblk m c 4 t) r n n'
    (fun k => iblk3 m c t k n n' h) (fun g => iblk4 m c t g n n' h)

/-- The product the kernel leaves is the reference's. -/
theorem product_final (c : Dev nD) (hX : TameX (argX m c)) (hS : TameS (argWS m c)) :
    (dats m 0 c).arrAt 5 cfg0.N = refY m c := by
  refine (dats m 0 c).arrAt_eq_of_covers 5 _ (by decide +kernel) fun t hf y => ?_
  blk_simp
  rw [after0_5]
  have ht : t.val < 9 := lt_of_lt_of_eq t.isLt N_0
  have h1 : (y 1).val < 512 := (y 1).isLt
  have key := tile_eq m c hX hS t (y 0) (y 1) ⟨512 * t.val + (y 1).val, by omega⟩ rfl
  have ey : (ix2 (y 0) (y 1) : S1536x512.Idx) = y := by
    funext a
    match a with
    | ⟨0, _⟩ => rfl
    | ⟨1, _⟩ => rfl
  refine Eq.trans (congrArg (tileOut m c t) ey.symm) (key.trans ?_)
  blk_ext [idx t]

end Cert.KernelIdeal.Hand
-- ==== Proof.Agree.lean ====
/- The kernel and the reference, run from memories that agree on the arguments, leave the same three results. -/
module

public import proofs.«01_k».proof.Defs
public import proofs.«01_k».proof.Proof.Gen.Kernel
public import proofs.«01_k».proof.Proof.Values

@[expose] public section

set_option maxRecDepth 16384

noncomputable section

open Idealize.ShloMosaic Idealize.ShloMosaic.TcCoe Idealize.SL.Sem

/-- The kernel's run: its three results are the reference's arithmetic of its arguments, which it leaves as they were. -/
theorem Cert.KernelIdeal.Hand.run_results
    (m : (ℓ : Loc Cert.KernelIdeal.nD Cert.KernelIdeal.τ Cert.KernelIdeal.sig) → Buf (Elt Ideal) ℓ) (ρ : Dev Cert.KernelIdeal.nD → PrngReg)
    (hX : ∀ c, Cert.Meet.TameX (Cert.KernelIdeal.Hand.argX m c)) (hS : ∀ c, Cert.Meet.TameS (Cert.KernelIdeal.Hand.argWS m c)) :
    θ_run (Cert.KernelIdeal.defs (F := Ideal)) (onTc (τ := Cert.KernelIdeal.τ) (Cert.KernelIdeal.main (F := Ideal))) ⟨m, fun _ => 0, ρ⟩ (fun r =>
      ∀ c : Dev Cert.KernelIdeal.nD,
        r.2.mem ((c.tc : Thread Cert.KernelIdeal.nD Cert.KernelIdeal.τ).loc Cert.KernelIdeal.main_v4_0) = Cert.KernelIdeal.Hand.refY m c
        ∧ r.2.mem ((c.tc : Thread Cert.KernelIdeal.nD Cert.KernelIdeal.τ).loc Cert.KernelIdeal.main_v4_1)
          = Cert.ReferenceIdeal.Gen.k0_pay6 (Cert.KernelIdeal.Hand.argX m c)
        ∧ r.2.mem ((c.tc : Thread Cert.KernelIdeal.nD Cert.KernelIdeal.τ).loc Cert.KernelIdeal.main_v4_2)
          = Cert.ReferenceIdeal.Gen.k0_pay5 (Cert.KernelIdeal.Hand.argX m c)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)) := by
  refine (θ_run _ _ _).mono (fun r h c => ?_)
    (θ_run_and (Cert.KernelIdeal.Hand.run_main m ρ) (Cert.KernelIdeal.Hand.unchanged m ρ))
  exact ⟨((h.1 c).1 5).trans (Cert.KernelIdeal.Hand.product_final m c (hX c) (hS c)),
    ((h.1 c).1 6).trans (Cert.KernelIdeal.Hand.codes_final m c (hX c)),
    ((h.1 c).1 7).trans (Cert.KernelIdeal.Hand.scales_final m c (hX c)), h.2 c⟩

/-- The algebraic claim. -/
theorem Cert.Meet.agree :
    Cert.algebraic_KernelIdeal_ReferenceIdeal_pre_tame (hKernelIdeal := Cert.KernelIdeal.Gen.facts)
      (hReferenceIdeal := Cert.ReferenceIdeal.Gen.facts) (hPre_tame := Cert.Meet.tameFacts) := by
  intro m g m' g' hpre hagree
  letI : Cert.Pre_tame.Facts := Cert.Meet.tameFacts
  have hX : ∀ c, Cert.Meet.TameX (Cert.KernelIdeal.Hand.argX m c) := fun c => Cert.Meet.tameX_of_pre _ _ _ (hpre c).1
  have hS : ∀ c, Cert.Meet.TameS (Cert.KernelIdeal.Hand.argWS m c) := fun c => Cert.Meet.tameS_of_pre _ _ _ (hpre c).2
  refine ⟨fun c => Cert.KernelIdeal.Hand.refY m c, fun c => Cert.ReferenceIdeal.Gen.k0_pay6 (Cert.KernelIdeal.Hand.argX m c),
    fun c => Cert.ReferenceIdeal.Gen.k0_pay5 (Cert.KernelIdeal.Hand.argX m c), Cert.KernelIdeal.Hand.run_results m g hX hS, ?_⟩
  refine (θ_run _ _ _).mono (fun r h c => ?_) (Cert.ReferenceIdeal.Value.run_blocks m' g')
  obtain ⟨h0, h1, h2, k⟩ := h c
  obtain ⟨a0, a1, a2⟩ := hagree c
  refine ⟨h0.trans ((Cert.ReferenceIdeal.Hand.final3 m' c).trans ?_), h1.trans ((Cert.ReferenceIdeal.Hand.final4 m' c).trans ?_),
    h2.trans ((Cert.ReferenceIdeal.Hand.final5 m' c).trans ?_), k⟩
  · rw [a0, a1, a2]; rfl
  · rw [a0]; rfl
  · rw [a0]; rfl

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.FrameHand
public import proofs.«01_k».proof.Proof.Bits.FrameHand
public import proofs.«01_k».proof.Proof.Agree
public import Idealize.ShloMosaic.Adequacy
public import Idealize.ShloMosaic.Init

@[expose] public section

noncomputable section

namespace Cert.Proof

open Idealize.ShloMosaic Idealize.SL.Sem Cert.Kernel

/-- The claim: the three programs' frames, and the equality of the kernel's results with the reference's. -/
theorem claim : Cert.Claim := ⟨Cert.Kernel.Gen.facts, Cert.KernelIdeal.Gen.facts, Cert.ReferenceIdeal.Gen.facts,
  Cert.Meet.tameFacts, fun m ρ _ => Cert.Kernel.Hand.frame m ρ, fun m ρ _ => Cert.KernelIdeal.Hand.frame m ρ,
  fun m ρ _ => Cert.KernelIdeal.Hand.frame m ρ, fun m ρ _ => Cert.ReferenceIdeal.Gen.frame m ρ,
  fun m ρ _ => Cert.ReferenceIdeal.Gen.frame m ρ, trivial, Cert.Meet.agree⟩

end Cert.Proof

end
